-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![16384, 1024]⟩ ⟨2, ![65536, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2x4096x1024 : Shape := ⟨3, ![2, 4096, 1024]⟩
abbrev S2x2048x1024 : Shape := ⟨3, ![2, 2048, 1024]⟩
abbrev S2x512x1024 : Shape := ⟨3, ![2, 512, 1024]⟩
abbrev S2 : Shape := ⟨1, ![2]⟩
abbrev S2x8 : Shape := ⟨2, ![2, 8]⟩
abbrev S2x7 : Shape := ⟨2, ![2, 7]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1 : Shape := ⟨2, ![1, 1]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S16384x1024, .bf16⟩
  | .local _ .vmem, ⟨1, _⟩ => ⟨S2x4096x1024, .bf16⟩
  | .local _ .vmem, ⟨2, _⟩ => ⟨S2x2048x1024, .bf16⟩
  | .local _ .vmem, ⟨3, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) (c0_i32_32 : BitVec 32) : Fin 2 → Nat :=
  let c0_i32_13 : BitVec 32 := 0#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v17 : BitVec 32 := Scalar.subi c1_i32_11 v12
  let c4096_i32_12 : BitVec 32 := 4096#32
  let v18 : BitVec 32 := Scalar.muli v17 c4096_i32_12
  let v19 : BitVec 32 := Scalar.addi c0_i32_13 v18
  let c1_i32_16 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v25 : BitVec 32 := Scalar.subi c1_i32_16 v14
  let c2048_i32_17 : BitVec 32 := 2048#32
  let v26 : BitVec 32 := Scalar.muli v25 c2048_i32_17
  let v44 : BitVec 32 := Scalar.addi v26 c0_i32_32
  let v45 : BitVec 32 := Scalar.addi v19 v44
  let c0_i32_70 : BitVec 32 := 0#32
  ![v45.toNat, 0]
def k0_off2 (d0 : Dev nD) (c0_i32_33 : BitVec 32) : Fin 2 → Nat :=
  let c8192_i32_25 : BitVec 32 := 8192#32
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let v33 : BitVec 32 := Scalar.subi c1_i32_23 v29
  let c4096_i32_24 : BitVec 32 := 4096#32
  let v34 : BitVec 32 := Scalar.muli v33 c4096_i32_24
  let v35 : BitVec 32 := Scalar.addi c8192_i32_25 v34
  let c1_i32_21 : BitVec 32 := 1#32
  let v30 : BitVec 32 := Scalar.andi v2 c1_i32_21
  let c2048_i32_29 : BitVec 32 := 2048#32
  let v41 : BitVec 32 := Scalar.muli v30 c2048_i32_29
  let v46 : BitVec 32 := Scalar.addi v41 c0_i32_33
  let v47 : BitVec 32 := Scalar.addi v35 v46
  let c0_i32_75 : BitVec 32 := 0#32
  ![v47.toNat, 0]
def k0_off3 (d0 : Dev nD) (c0_i32_32 : BitVec 32) : Fin 2 → Nat :=
  let c0_i32_13 : BitVec 32 := 0#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v17 : BitVec 32 := Scalar.subi c1_i32_11 v12
  let c4096_i32_12 : BitVec 32 := 4096#32
  let v18 : BitVec 32 := Scalar.muli v17 c4096_i32_12
  let v19 : BitVec 32 := Scalar.addi c0_i32_13 v18
  let c1_i32_16 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v25 : BitVec 32 := Scalar.subi c1_i32_16 v14
  let c2048_i32_17 : BitVec 32 := 2048#32
  let v26 : BitVec 32 := Scalar.muli v25 c2048_i32_17
  let v44 : BitVec 32 := Scalar.addi v26 c0_i32_32
  let v45 : BitVec 32 := Scalar.addi v19 v44
  let v118 : Index := Scalar.indexCast v45
  let c0_83 : Index := 0#32
  ![v118.toNat, 0]
def k0_off4 (d0 : Dev nD) (c0_i32_33 : BitVec 32) : Fin 2 → Nat :=
  let c8192_i32_25 : BitVec 32 := 8192#32
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let v33 : BitVec 32 := Scalar.subi c1_i32_23 v29
  let c4096_i32_24 : BitVec 32 := 4096#32
  let v34 : BitVec 32 := Scalar.muli v33 c4096_i32_24
  let v35 : BitVec 32 := Scalar.addi c8192_i32_25 v34
  let c1_i32_21 : BitVec 32 := 1#32
  let v30 : BitVec 32 := Scalar.andi v2 c1_i32_21
  let c2048_i32_29 : BitVec 32 := 2048#32
  let v41 : BitVec 32 := Scalar.muli v30 c2048_i32_29
  let v46 : BitVec 32 := Scalar.addi v41 c0_i32_33
  let v47 : BitVec 32 := Scalar.addi v35 v46
  let v135 : Index := Scalar.indexCast v47
  let c0_96 : Index := 0#32
  ![v135.toNat, 0]
def k0_off5 (d0 : Dev nD) (c512_i32 : BitVec 32) : Fin 3 → Nat :=
  let c0_i32_112 : BitVec 32 := 0#32
  let c1_i32_16 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v25 : BitVec 32 := Scalar.subi c1_i32_16 v14
  let c2048_i32_17 : BitVec 32 := 2048#32
  let v26 : BitVec 32 := Scalar.muli v25 c2048_i32_17
  let v48 : BitVec 32 := Scalar.addi v26 c512_i32
  let c512_i32_34 : BitVec 32 := 512#32
  let v49 : BitVec 32 := Scalar.subi v48 c512_i32_34
  let c0_i32_119 : BitVec 32 := 0#32
  ![0, v49.toNat, 0]
def k0_off6 (d0 : Dev nD) (c512_i32 : BitVec 32) : Fin 2 → Nat :=
  let c0_i32_13 : BitVec 32 := 0#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v17 : BitVec 32 := Scalar.subi c1_i32_11 v12
  let c4096_i32_12 : BitVec 32 := 4096#32
  let v18 : BitVec 32 := Scalar.muli v17 c4096_i32_12
  let v19 : BitVec 32 := Scalar.addi c0_i32_13 v18
  let c1_i32_16 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v25 : BitVec 32 := Scalar.subi c1_i32_16 v14
  let c2048_i32_17 : BitVec 32 := 2048#32
  let v26 : BitVec 32 := Scalar.muli v25 c2048_i32_17
  let v48 : BitVec 32 := Scalar.addi v26 c512_i32
  let v50 : BitVec 32 := Scalar.addi v19 v48
  let c512_i32_111 : BitVec 32 := 512#32
  let v156 : BitVec 32 := Scalar.subi v50 c512_i32_111
  let c0_i32_120 : BitVec 32 := 0#32
  ![v156.toNat, 0]
def k0_dev3 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_117 : BitVec 32 := 1#32
  let v157 : BitVec 32 := Scalar.muli v3 c1_i32_117
  let v158 : BitVec 32 := Scalar.addi c0_i32_118 v157
  v158.toNat
def k0_off7 (d0 : Dev nD) (c512_i32_35 : BitVec 32) : Fin 3 → Nat :=
  let c1_i32_136 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v30 : BitVec 32 := Scalar.andi v2 c1_i32_21
  let c2048_i32_29 : BitVec 32 := 2048#32
  let v41 : BitVec 32 := Scalar.muli v30 c2048_i32_29
  let v51 : BitVec 32 := Scalar.addi v41 c512_i32_35
  let c512_i32_36 : BitVec 32 := 512#32
  let v52 : BitVec 32 := Scalar.subi v51 c512_i32_36
  let c0_i32_143 : BitVec 32 := 0#32
  ![1, v52.toNat, 0]
def k0_off8 (d0 : Dev nD) (c512_i32_35 : BitVec 32) : Fin 2 → Nat :=
  let c8192_i32_25 : BitVec 32 := 8192#32
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let v33 : BitVec 32 := Scalar.subi c1_i32_23 v29
  let c4096_i32_24 : BitVec 32 := 4096#32
  let v34 : BitVec 32 := Scalar.muli v33 c4096_i32_24
  let v35 : BitVec 32 := Scalar.addi c8192_i32_25 v34
  let c1_i32_21 : BitVec 32 := 1#32
  let v30 : BitVec 32 := Scalar.andi v2 c1_i32_21
  let c2048_i32_29 : BitVec 32 := 2048#32
  let v41 : BitVec 32 := Scalar.muli v30 c2048_i32_29
  let v51 : BitVec 32 := Scalar.addi v41 c512_i32_35
  let v53 : BitVec 32 := Scalar.addi v35 v51
  let c512_i32_135 : BitVec 32 := 512#32
  let v183 : BitVec 32 := Scalar.subi v53 c512_i32_135
  let c0_i32_144 : BitVec 32 := 0#32
  ![v183.toNat, 0]
def k0_dev4 (d0 : Dev nD) : Nat :=
  let c0_i32_142 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_141 : BitVec 32 := 1#32
  let v184 : BitVec 32 := Scalar.muli v4 c1_i32_141
  let v185 : BitVec 32 := Scalar.addi c0_i32_142 v184
  v185.toNat
def k0_dev5 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_193 : BitVec 32 := 1#32
  let v245 : BitVec 32 := Scalar.muli v3 c1_i32_193
  let v246 : BitVec 32 := Scalar.addi c0_i32_194 v245
  v246.toNat
def k0_off9 (d0 : Dev nD) (c0_i32_41 : BitVec 32) : Fin 2 → Nat :=
  let c0_i32_13 : BitVec 32 := 0#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v17 : BitVec 32 := Scalar.subi c1_i32_11 v12
  let c4096_i32_12 : BitVec 32 := 4096#32
  let v18 : BitVec 32 := Scalar.muli v17 c4096_i32_12
  let v19 : BitVec 32 := Scalar.addi c0_i32_13 v18
  let c1_i32_8 : BitVec 32 := 1#32
  let v13 : BitVec 32 := Scalar.shrsi v2 c1_i32_8
  let c1_i32_9 : BitVec 32 := 1#32
  let v14 : BitVec 32 := Scalar.andi v13 c1_i32_9
  let c2048_i32_18 : BitVec 32 := 2048#32
  let v27 : BitVec 32 := Scalar.muli v14 c2048_i32_18
  let v64 : BitVec 32 := Scalar.addi v27 c0_i32_41
  let v65 : BitVec 32 := Scalar.addi v19 v64
  let c0_i32_201 : BitVec 32 := 0#32
  ![v65.toNat, 0]
def k0_dev6 (d0 : Dev nD) : Nat :=
  let c0_i32_218 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_217 : BitVec 32 := 1#32
  let v272 : BitVec 32 := Scalar.muli v4 c1_i32_217
  let v273 : BitVec 32 := Scalar.addi c0_i32_218 v272
  v273.toNat
def k0_off10 (d0 : Dev nD) (c0_i32_42 : BitVec 32) : Fin 2 → Nat :=
  let c8192_i32_25 : BitVec 32 := 8192#32
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let v33 : BitVec 32 := Scalar.subi c1_i32_23 v29
  let c4096_i32_24 : BitVec 32 := 4096#32
  let v34 : BitVec 32 := Scalar.muli v33 c4096_i32_24
  let v35 : BitVec 32 := Scalar.addi c8192_i32_25 v34
  let c1_i32_30 : BitVec 32 := 1#32
  let c1_i32_21 : BitVec 32 := 1#32
  let v30 : BitVec 32 := Scalar.andi v2 c1_i32_21
  let v42 : BitVec 32 := Scalar.subi c1_i32_30 v30
  let c2048_i32_31 : BitVec 32 := 2048#32
  let v43 : BitVec 32 := Scalar.muli v42 c2048_i32_31
  let v66 : BitVec 32 := Scalar.addi v43 c0_i32_42
  let v67 : BitVec 32 := Scalar.addi v35 v66
  let c0_i32_225 : BitVec 32 := 0#32
  ![v67.toNat, 0]
def k0_off11 (d0 : Dev nD) (c0_i32_41 : BitVec 32) : Fin 2 → Nat :=
  let c0_i32_13 : BitVec 32 := 0#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v17 : BitVec 32 := Scalar.subi c1_i32_11 v12
  let c4096_i32_12 : BitVec 32 := 4096#32
  let v18 : BitVec 32 := Scalar.muli v17 c4096_i32_12
  let v19 : BitVec 32 := Scalar.addi c0_i32_13 v18
  let c1_i32_8 : BitVec 32 := 1#32
  let v13 : BitVec 32 := Scalar.shrsi v2 c1_i32_8
  let c1_i32_9 : BitVec 32 := 1#32
  let v14 : BitVec 32 := Scalar.andi v13 c1_i32_9
  let c2048_i32_18 : BitVec 32 := 2048#32
  let v27 : BitVec 32 := Scalar.muli v14 c2048_i32_18
  let v64 : BitVec 32 := Scalar.addi v27 c0_i32_41
  let v65 : BitVec 32 := Scalar.addi v19 v64
  let v294 : Index := Scalar.indexCast v65
  let c0_234 : Index := 0#32
  ![v294.toNat, 0]
def k0_off12 (d0 : Dev nD) (c0_i32_42 : BitVec 32) : Fin 2 → Nat :=
  let c8192_i32_25 : BitVec 32 := 8192#32
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let v33 : BitVec 32 := Scalar.subi c1_i32_23 v29
  let c4096_i32_24 : BitVec 32 := 4096#32
  let v34 : BitVec 32 := Scalar.muli v33 c4096_i32_24
  let v35 : BitVec 32 := Scalar.addi c8192_i32_25 v34
  let c1_i32_30 : BitVec 32 := 1#32
  let c1_i32_21 : BitVec 32 := 1#32
  let v30 : BitVec 32 := Scalar.andi v2 c1_i32_21
  let v42 : BitVec 32 := Scalar.subi c1_i32_30 v30
  let c2048_i32_31 : BitVec 32 := 2048#32
  let v43 : BitVec 32 := Scalar.muli v42 c2048_i32_31
  let v66 : BitVec 32 := Scalar.addi v43 c0_i32_42
  let v67 : BitVec 32 := Scalar.addi v35 v66
  let v311 : Index := Scalar.indexCast v67
  let c0_248 : Index := 0#32
  ![v311.toNat, 0]
def k0_off13 (d0 : Dev nD) (c512_i32_43 : BitVec 32) : Fin 3 → Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c2048_i32_18 : BitVec 32 := 2048#32
  let v27 : BitVec 32 := Scalar.muli v14 c2048_i32_18
  let v68 : BitVec 32 := Scalar.addi v27 c512_i32_43
  let c512_i32_44 : BitVec 32 := 512#32
  let v69 : BitVec 32 := Scalar.subi v68 c512_i32_44
  let c0_i32_271 : BitVec 32 := 0#32
  ![0, v69.toNat, 0]
def k0_off14 (d0 : Dev nD) (c512_i32_43 : BitVec 32) : Fin 2 → Nat :=
  let c0_i32_13 : BitVec 32 := 0#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v17 : BitVec 32 := Scalar.subi c1_i32_11 v12
  let c4096_i32_12 : BitVec 32 := 4096#32
  let v18 : BitVec 32 := Scalar.muli v17 c4096_i32_12
  let v19 : BitVec 32 := Scalar.addi c0_i32_13 v18
  let c1_i32_8 : BitVec 32 := 1#32
  let v13 : BitVec 32 := Scalar.shrsi v2 c1_i32_8
  let c1_i32_9 : BitVec 32 := 1#32
  let v14 : BitVec 32 := Scalar.andi v13 c1_i32_9
  let c2048_i32_18 : BitVec 32 := 2048#32
  let v27 : BitVec 32 := Scalar.muli v14 c2048_i32_18
  let v68 : BitVec 32 := Scalar.addi v27 c512_i32_43
  let v70 : BitVec 32 := Scalar.addi v19 v68
  let c512_i32_263 : BitVec 32 := 512#32
  let v332 : BitVec 32 := Scalar.subi v70 c512_i32_263
  let c0_i32_272 : BitVec 32 := 0#32
  ![v332.toNat, 0]
def k0_dev7 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_269 : BitVec 32 := 1#32
  let v333 : BitVec 32 := Scalar.muli v3 c1_i32_269
  let v334 : BitVec 32 := Scalar.addi c0_i32_270 v333
  v334.toNat
def k0_off15 (d0 : Dev nD) (c512_i32_45 : BitVec 32) : Fin 3 → Nat :=
  let c1_i32_288 : BitVec 32 := 1#32
  let c1_i32_30 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v30 : BitVec 32 := Scalar.andi v2 c1_i32_21
  let v42 : BitVec 32 := Scalar.subi c1_i32_30 v30
  let c2048_i32_31 : BitVec 32 := 2048#32
  let v43 : BitVec 32 := Scalar.muli v42 c2048_i32_31
  let v71 : BitVec 32 := Scalar.addi v43 c512_i32_45
  let c512_i32_46 : BitVec 32 := 512#32
  let v72 : BitVec 32 := Scalar.subi v71 c512_i32_46
  let c0_i32_295 : BitVec 32 := 0#32
  ![1, v72.toNat, 0]
def k0_off16 (d0 : Dev nD) (c512_i32_45 : BitVec 32) : Fin 2 → Nat :=
  let c8192_i32_25 : BitVec 32 := 8192#32
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let v33 : BitVec 32 := Scalar.subi c1_i32_23 v29
  let c4096_i32_24 : BitVec 32 := 4096#32
  let v34 : BitVec 32 := Scalar.muli v33 c4096_i32_24
  let v35 : BitVec 32 := Scalar.addi c8192_i32_25 v34
  let c1_i32_30 : BitVec 32 := 1#32
  let c1_i32_21 : BitVec 32 := 1#32
  let v30 : BitVec 32 := Scalar.andi v2 c1_i32_21
  let v42 : BitVec 32 := Scalar.subi c1_i32_30 v30
  let c2048_i32_31 : BitVec 32 := 2048#32
  let v43 : BitVec 32 := Scalar.muli v42 c2048_i32_31
  let v71 : BitVec 32 := Scalar.addi v43 c512_i32_45
  let v73 : BitVec 32 := Scalar.addi v35 v71
  let c512_i32_287 : BitVec 32 := 512#32
  let v359 : BitVec 32 := Scalar.subi v73 c512_i32_287
  let c0_i32_296 : BitVec 32 := 0#32
  ![v359.toNat, 0]
def k0_dev8 (d0 : Dev nD) : Nat :=
  let c0_i32_294 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_293 : BitVec 32 := 1#32
  let v360 : BitVec 32 := Scalar.muli v4 c1_i32_293
  let v361 : BitVec 32 := Scalar.addi c0_i32_294 v360
  v361.toNat
def k0_dev9 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_345 : BitVec 32 := 1#32
  let v421 : BitVec 32 := Scalar.muli v3 c1_i32_345
  let v422 : BitVec 32 := Scalar.addi c0_i32_346 v421
  v422.toNat
def k0_off17 (d0 : Dev nD) (c0_i32_53 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let v84 : BitVec 32 := Scalar.addi v16 c0_i32_53
  let c0_i32_353 : BitVec 32 := 0#32
  ![v84.toNat, 0]
def k0_dev10 (d0 : Dev nD) : Nat :=
  let c0_i32_370 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_369 : BitVec 32 := 1#32
  let v448 : BitVec 32 := Scalar.muli v4 c1_i32_369
  let v449 : BitVec 32 := Scalar.addi c0_i32_370 v448
  v449.toNat
def k0_off18 (d0 : Dev nD) (c0_i32_53 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let v84 : BitVec 32 := Scalar.addi v16 c0_i32_53
  let v470 : Index := Scalar.indexCast v84
  let c0_386 : Index := 0#32
  ![v470.toNat, 0]
def k0_off19 (d0 : Dev nD) (c0_i32_58 : BitVec 32) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let v92 : BitVec 32 := Scalar.addi v32 c0_i32_58
  let c0_i32_475 : BitVec 32 := 0#32
  ![v92.toNat, 0]
def k0_off20 (d0 : Dev nD) (c0_i32_58 : BitVec 32) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let v92 : BitVec 32 := Scalar.addi v32 c0_i32_58
  let v606 : Index := Scalar.indexCast v92
  let c0_498 : Index := 0#32
  ![v606.toNat, 0]
def k0_off21 (d0 : Dev nD) (c0_i32_601 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let c1_i32_14 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v22 : BitVec 32 := Scalar.subi c1_i32_14 v14
  let c2048_i32_15 : BitVec 32 := 2048#32
  let v23 : BitVec 32 := Scalar.muli v22 c2048_i32_15
  let v24 : BitVec 32 := Scalar.addi v16 v23
  let v731 : BitVec 32 := Scalar.addi v24 c0_i32_601
  let v732 : Index := Scalar.indexCast v731
  let c0_602 : Index := 0#32
  ![v732.toNat, 0]
def k0_off22 (d0 : Dev nD) (c0_i32_605 : BitVec 32) : Fin 3 → Nat :=
  let c0_606 : Index := 0#32
  let c1_i32_603 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v734 : BitVec 32 := Scalar.subi c1_i32_603 v14
  let c2048_i32_604 : BitVec 32 := 2048#32
  let v735 : BitVec 32 := Scalar.muli v734 c2048_i32_604
  let v736 : BitVec 32 := Scalar.addi v735 c0_i32_605
  let v737 : Index := Scalar.indexCast v736
  let c0_607 : Index := 0#32
  ![0, v737.toNat, 0]
def k0_off23 (d0 : Dev nD) (c0_i32_601 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let c1_i32_14 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v22 : BitVec 32 := Scalar.subi c1_i32_14 v14
  let c2048_i32_15 : BitVec 32 := 2048#32
  let v23 : BitVec 32 := Scalar.muli v22 c2048_i32_15
  let v24 : BitVec 32 := Scalar.addi v16 v23
  let v731 : BitVec 32 := Scalar.addi v24 c0_i32_601
  let c0_i32_618 : BitVec 32 := 0#32
  ![v731.toNat, 0]
def k0_dev11 (d0 : Dev nD) : Nat :=
  let c0_i32_615 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_614 : BitVec 32 := 1#32
  let v745 : BitVec 32 := Scalar.muli v4 c1_i32_614
  let v746 : BitVec 32 := Scalar.addi c0_i32_615 v745
  v746.toNat
def k0_off24 (d0 : Dev nD) (c0_i32_628 : BitVec 32) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let c1_i32_27 : BitVec 32 := 1#32
  let c1_i32_21 : BitVec 32 := 1#32
  let v30 : BitVec 32 := Scalar.andi v2 c1_i32_21
  let v38 : BitVec 32 := Scalar.subi c1_i32_27 v30
  let c2048_i32_28 : BitVec 32 := 2048#32
  let v39 : BitVec 32 := Scalar.muli v38 c2048_i32_28
  let v40 : BitVec 32 := Scalar.addi v32 v39
  let v761 : BitVec 32 := Scalar.addi v40 c0_i32_628
  let v762 : Index := Scalar.indexCast v761
  let c0_629 : Index := 0#32
  ![v762.toNat, 0]
def k0_off25 (d0 : Dev nD) (c0_i32_632 : BitVec 32) : Fin 3 → Nat :=
  let c1_633 : Index := 1#32
  let c1_i32_630 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v30 : BitVec 32 := Scalar.andi v2 c1_i32_21
  let v764 : BitVec 32 := Scalar.subi c1_i32_630 v30
  let c2048_i32_631 : BitVec 32 := 2048#32
  let v765 : BitVec 32 := Scalar.muli v764 c2048_i32_631
  let v766 : BitVec 32 := Scalar.addi v765 c0_i32_632
  let v767 : Index := Scalar.indexCast v766
  let c0_634 : Index := 0#32
  ![1, v767.toNat, 0]
def k0_off26 (d0 : Dev nD) (c0_i32_628 : BitVec 32) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let c1_i32_27 : BitVec 32 := 1#32
  let c1_i32_21 : BitVec 32 := 1#32
  let v30 : BitVec 32 := Scalar.andi v2 c1_i32_21
  let v38 : BitVec 32 := Scalar.subi c1_i32_27 v30
  let c2048_i32_28 : BitVec 32 := 2048#32
  let v39 : BitVec 32 := Scalar.muli v38 c2048_i32_28
  let v40 : BitVec 32 := Scalar.addi v32 v39
  let v761 : BitVec 32 := Scalar.addi v40 c0_i32_628
  let c0_i32_645 : BitVec 32 := 0#32
  ![v761.toNat, 0]
def k0_dev12 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_641 : BitVec 32 := 1#32
  let v775 : BitVec 32 := Scalar.muli v3 c1_i32_641
  let v776 : BitVec 32 := Scalar.addi c0_i32_642 v775
  v776.toNat
def k0_dev13 (d0 : Dev nD) : Nat :=
  let c0_i32_669 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_668 : BitVec 32 := 1#32
  let v805 : BitVec 32 := Scalar.muli v4 c1_i32_668
  let v806 : BitVec 32 := Scalar.addi c0_i32_669 v805
  v806.toNat
def k0_dev14 (d0 : Dev nD) : Nat :=
  let c0_i32_696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_695 : BitVec 32 := 1#32
  let v835 : BitVec 32 := Scalar.muli v3 c1_i32_695
  let v836 : BitVec 32 := Scalar.addi c0_i32_696 v835
  v836.toNat
def k0_off27 (d0 : Dev nD) (c0_i32_709 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let c1_i32_8 : BitVec 32 := 1#32
  let v13 : BitVec 32 := Scalar.shrsi v2 c1_i32_8
  let c1_i32_9 : BitVec 32 := 1#32
  let v14 : BitVec 32 := Scalar.andi v13 c1_i32_9
  let c2048_i32 : BitVec 32 := 2048#32
  let v20 : BitVec 32 := Scalar.muli v14 c2048_i32
  let v21 : BitVec 32 := Scalar.addi v16 v20
  let v851 : BitVec 32 := Scalar.addi v21 c0_i32_709
  let v852 : Index := Scalar.indexCast v851
  let c0_710 : Index := 0#32
  ![v852.toNat, 0]
def k0_off28 (d0 : Dev nD) (c0_i32_712 : BitVec 32) : Fin 3 → Nat :=
  let c0_713 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c2048_i32_711 : BitVec 32 := 2048#32
  let v854 : BitVec 32 := Scalar.muli v14 c2048_i32_711
  let v855 : BitVec 32 := Scalar.addi v854 c0_i32_712
  let v856 : Index := Scalar.indexCast v855
  let c0_714 : Index := 0#32
  ![0, v856.toNat, 0]
def k0_off29 (d0 : Dev nD) (c0_i32_725 : BitVec 32) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let c1_i32_21 : BitVec 32 := 1#32
  let v30 : BitVec 32 := Scalar.andi v2 c1_i32_21
  let c2048_i32_26 : BitVec 32 := 2048#32
  let v36 : BitVec 32 := Scalar.muli v30 c2048_i32_26
  let v37 : BitVec 32 := Scalar.addi v32 v36
  let v871 : BitVec 32 := Scalar.addi v37 c0_i32_725
  let v872 : Index := Scalar.indexCast v871
  let c0_726 : Index := 0#32
  ![v872.toNat, 0]
def k0_off30 (d0 : Dev nD) (c0_i32_728 : BitVec 32) : Fin 3 → Nat :=
  let c1_729 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v30 : BitVec 32 := Scalar.andi v2 c1_i32_21
  let c2048_i32_727 : BitVec 32 := 2048#32
  let v874 : BitVec 32 := Scalar.muli v30 c2048_i32_727
  let v875 : BitVec 32 := Scalar.addi v874 c0_i32_728
  let v876 : Index := Scalar.indexCast v875
  let c0_730 : Index := 0#32
  ![1, v876.toNat, 0]
def k0_off31 (d0 : Dev nD) (c0_i32_774 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let c1_i32_8 : BitVec 32 := 1#32
  let v13 : BitVec 32 := Scalar.shrsi v2 c1_i32_8
  let c1_i32_9 : BitVec 32 := 1#32
  let v14 : BitVec 32 := Scalar.andi v13 c1_i32_9
  let c2048_i32 : BitVec 32 := 2048#32
  let v20 : BitVec 32 := Scalar.muli v14 c2048_i32
  let v21 : BitVec 32 := Scalar.addi v16 v20
  let v931 : BitVec 32 := Scalar.addi v21 c0_i32_774
  let c0_i32_786 : BitVec 32 := 0#32
  ![v931.toNat, 0]
def k0_dev15 (d0 : Dev nD) : Nat :=
  let c0_i32_785 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_784 : BitVec 32 := 1#32
  let v941 : BitVec 32 := Scalar.muli v4 c1_i32_784
  let v942 : BitVec 32 := Scalar.addi c0_i32_785 v941
  v942.toNat
def k0_off32 (d0 : Dev nD) (c0_i32_798 : BitVec 32) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let c1_i32_21 : BitVec 32 := 1#32
  let v30 : BitVec 32 := Scalar.andi v2 c1_i32_21
  let c2048_i32_26 : BitVec 32 := 2048#32
  let v36 : BitVec 32 := Scalar.muli v30 c2048_i32_26
  let v37 : BitVec 32 := Scalar.addi v32 v36
  let v956 : BitVec 32 := Scalar.addi v37 c0_i32_798
  let c0_i32_810 : BitVec 32 := 0#32
  ![v956.toNat, 0]
def k0_dev16 (d0 : Dev nD) : Nat :=
  let c0_i32_809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_808 : BitVec 32 := 1#32
  let v966 : BitVec 32 := Scalar.muli v3 c1_i32_808
  let v967 : BitVec 32 := Scalar.addi c0_i32_809 v966
  v967.toNat
def k0_dev17 (d0 : Dev nD) : Nat :=
  let c0_i32_832 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_831 : BitVec 32 := 1#32
  let v991 : BitVec 32 := Scalar.muli v4 c1_i32_831
  let v992 : BitVec 32 := Scalar.addi c0_i32_832 v991
  v992.toNat
def k0_off33 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c4096_i32 : BitVec 32 := 4096#32
  let v15 : BitVec 32 := Scalar.muli v12 c4096_i32
  let v16 : BitVec 32 := Scalar.addi c0_i32_10 v15
  let c1_i32_8 : BitVec 32 := 1#32
  let v13 : BitVec 32 := Scalar.shrsi v2 c1_i32_8
  let c1_i32_9 : BitVec 32 := 1#32
  let v14 : BitVec 32 := Scalar.andi v13 c1_i32_9
  let c2048_i32 : BitVec 32 := 2048#32
  let v20 : BitVec 32 := Scalar.muli v14 c2048_i32
  let v21 : BitVec 32 := Scalar.addi v16 v20
  let c0_i32_841 : BitVec 32 := 0#32
  ![v21.toNat, 0]
def k0_dev18 (d0 : Dev nD) : Nat :=
  let c0_i32_840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_839 : BitVec 32 := 1#32
  let v999 : BitVec 32 := Scalar.muli v3 c1_i32_839
  let v1000 : BitVec 32 := Scalar.addi c0_i32_840 v999
  v1000.toNat
def k0_dev19 (d0 : Dev nD) : Nat :=
  let c0_i32_867 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_866 : BitVec 32 := 1#32
  let v1028 : BitVec 32 := Scalar.muli v3 c1_i32_866
  let v1029 : BitVec 32 := Scalar.addi c0_i32_867 v1028
  v1029.toNat
def k0_off34 (d0 : Dev nD) : Fin 2 → Nat :=
  let c8192_i32 : BitVec 32 := 8192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.shrsi v2 c1_i32_19
  let c1_i32_20 : BitVec 32 := 1#32
  let v29 : BitVec 32 := Scalar.andi v28 c1_i32_20
  let c4096_i32_22 : BitVec 32 := 4096#32
  let v31 : BitVec 32 := Scalar.muli v29 c4096_i32_22
  let v32 : BitVec 32 := Scalar.addi c8192_i32 v31
  let c1_i32_21 : BitVec 32 := 1#32
  let v30 : BitVec 32 := Scalar.andi v2 c1_i32_21
  let c2048_i32_26 : BitVec 32 := 2048#32
  let v36 : BitVec 32 := Scalar.muli v30 c2048_i32_26
  let v37 : BitVec 32 := Scalar.addi v32 v36
  let c0_i32_876 : BitVec 32 := 0#32
  ![v37.toNat, 0]
def k0_dev20 (d0 : Dev nD) : Nat :=
  let c0_i32_875 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_874 : BitVec 32 := 1#32
  let v1036 : BitVec 32 := Scalar.muli v4 c1_i32_874
  let v1037 : BitVec 32 := Scalar.addi c0_i32_875 v1036
  v1037.toNat
def k0_dev21 (d0 : Dev nD) : Nat :=
  let c0_i32_894 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_893 : BitVec 32 := 1#32
  let v1055 : BitVec 32 := Scalar.muli v3 c1_i32_893
  let v1056 : BitVec 32 := Scalar.addi c0_i32_894 v1055
  v1056.toNat
def k0_dev22 (d0 : Dev nD) : Nat :=
  let c0_i32_911 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_910 : BitVec 32 := 1#32
  let v1070 : BitVec 32 := Scalar.muli v4 c1_i32_910
  let v1071 : BitVec 32 := Scalar.addi c0_i32_911 v1070
  v1071.toNat
def k0_dev23 (d0 : Dev nD) : Nat :=
  let c0_i32_927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_926 : BitVec 32 := 1#32
  let v1085 : BitVec 32 := Scalar.muli v3 c1_i32_926
  let v1086 : BitVec 32 := Scalar.addi c0_i32_927 v1085
  v1086.toNat
def k0_dev24 (d0 : Dev nD) : Nat :=
  let c0_i32_944 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_943 : BitVec 32 := 1#32
  let v1100 : BitVec 32 := Scalar.muli v4 c1_i32_943
  let v1101 : BitVec 32 := Scalar.addi c0_i32_944 v1100
  v1101.toNat
-- ==== ReferenceIdeal.lean ====
abbrev S65536x1024 : Shape := ⟨2, ![65536, 1024]⟩
abbrev S4x16384x1024 : Shape := ⟨3, ![4, 16384, 1024]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S4x16384x1024, .bf16⟩
  | .hbm, ⟨3, _⟩ => ⟨S4x16384x1024, .f32⟩
  | .hbm, ⟨4, _⟩ => ⟨S_, .f32⟩
  | .hbm, ⟨5, _⟩ => ⟨S16384x1024, .f32⟩
  | .hbm, ⟨6, _⟩ => ⟨S16384x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Prog.lean ====
/-
# The kernel's operations, in program order, over plain row numbers

The kernel is written once more as a sequence of a few pieces (start a chunk's copy, take a chunk in, send a block,
add a received block), each over the row numbers of the reduce-scatter and all-gather in plain arithmetic. `body_eq`
states that the printed kernel is this sequence.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.SumProof

open Cert.KernelIdeal Cert.KernelIdeal.Gen
open Idealize.ShloMosaic
open Idealize.ShloMosaic.TcCoe
open Idealize.SL.Sem

variable {F : FTy → Type} [FloatOps F]

/-! ## Rows -/

/-- The two halves of the rows are summed by two mirrored schedules. `h` names the half. In the first exchange device
    `c` keeps quarter `k1 h c` of its half, in the second it keeps piece `k2 h c` of that quarter. -/
def k1 (h : Fin 2) (c : Dev nD) : ℕ := if h = 0 then (c.val % 2 + c.val / 2) % 2 else c.val / 2
def k2 (h : Fin 2) (c : Dev nD) : ℕ := if h = 0 then c.val / 2 else c.val % 2

/-- First row of the quarter kept in the first exchange. -/
def keep1 (h : Fin 2) (c : Dev nD) : ℕ := h.val * 8192 + k1 h c * 4096
/-- First row of the piece kept in the second exchange, and of the piece sent. -/
def keep2 (h : Fin 2) (c : Dev nD) : ℕ := keep1 h c + k2 h c * 2048
def send2 (h : Fin 2) (c : Dev nD) : ℕ := keep1 h c + (1 - k2 h c) * 2048

/-- The neighbour across the first ring direction and across the second. -/
def nbrA (c : Dev nD) : Dev nD := ⟨c.val ^^^ 1, by revert c; decide⟩
def nbrB (c : Dev nD) : Dev nD := ⟨3 - c.val, by revert c; decide⟩
/-- The partner of the first exchange (and of the last gather) and of the second. -/
def p1 (h : Fin 2) (c : Dev nD) : Dev nD := if h = 0 then nbrA c else nbrB c
def p2 (h : Fin 2) (c : Dev nD) : Dev nD := if h = 0 then nbrB c else nbrA c

/-- Rows, within the quarter device `d` keeps, of the `q`-th block it receives in the first exchange. -/
def rel1 (h : Fin 2) (q : Fin 4) (d : Dev nD) : ℕ :=
  if q.val < 2 then (1 - k2 h d) * 2048 + q.val * 1024 else k2 h d * 2048 + (q.val - 2) * 1024
/-- First row of the `q`-th block device `c` sends in the first exchange. -/
def src1 (h : Fin 2) (q : Fin 4) (c : Dev nD) : ℕ := keep1 h (p1 h c) + rel1 h q (p1 h c)

/-- First row of the `i`-th chunk of 512 rows taken in: the blocks to be sent first, then the kept quarters. -/
def row (i : Fin 32) (c : Dev nD) : ℕ :=
  if i.val < 16 then src1 (Fin.ofNat 2 i.val) (Fin.ofNat 4 (i.val / 4)) c + 512 * (i.val / 2 % 2)
  else keep1 (Fin.ofNat 2 (i.val / 8)) c + 512 * (i.val % 8)

/-! ## Buffers and windows -/

abbrev xM : Memref sig .tc .hbm S16384x1024 .f32 := Memref.whole main_arg0
abbrev oM : Memref sig .tc .hbm S16384x1024 .bf16 := Memref.whole main_v1
abbrev aM : Memref sig .tc .vmem S16384x1024 .bf16 := Memref.whole cc0_scratch0
abbrev b1M : Memref sig .tc .vmem S2x4096x1024 .bf16 := Memref.whole cc0_scratch1
abbrev b2M : Memref sig .tc .vmem S2x2048x1024 .bf16 := Memref.whole cc0_scratch2
abbrev tM : Memref sig .tc .vmem S2x512x1024 .f32 := Memref.whole cc0_scratch3

abbrev barS : Sem sig := (SemArray.scalar (sig.barrier 0 rfl) : Sems sig S_).sem
def dsem (n : Fin 64) : DmaSem sig := ⟨n.val, n.isLt⟩

/-- A window of `n` whole rows starting at row `a` lies in the 16384 rows and on whole words of packed pairs. -/
structure Fits (N n a : ℕ) : Prop where
  le : a + n ≤ N
  off : 2 ∣ a
  num : 2 ∣ n
instance (N n a : ℕ) : Decidable (Fits N n a) :=
  decidable_of_iff (a + n ≤ N ∧ 2 ∣ a ∧ 2 ∣ n) ⟨fun ⟨h, h', h''⟩ => ⟨h, h', h''⟩, fun ⟨h, h', h''⟩ => ⟨h, h', h''⟩⟩

abbrev Sh (n : ℕ) : Shape := ⟨2, ![n, 1024]⟩
abbrev Sh3 (N n : ℕ) : Shape := ⟨3, ![N, n, 1024]⟩

theorem inb2 {N n a : ℕ} (h : Fits N n a) : ∀ i, (![a, 0] : Fin 2 → ℕ) i + (Sh n).size i ≤ (Sh N).size i := fun i => by
  have := h.le; fin_cases i <;> simp <;> omega
theorem inb3 {N n a : ℕ} (b : Fin 2) (h : Fits N n a) : ∀ i, (![b.val, a, 0] : Fin 3 → ℕ) i + (Sh3 1 n).size i ≤ (Sh3 2 N).size i := fun i => by
  have := h.le; have := b.isLt; fin_cases i <;> simp <;> omega

/-- Rows `a` to `a + n` of a buffer of `N` rows. -/
abbrev rows {N n a : ℕ} (h : Fits N n a) : Rect (Sh N) := Rect.unit (s := Sh N) ![a, 0] (Sh n).size (inb2 h)
/-- Rows `a` to `a + n` of slab `b` of a buffer of two slabs of `N` rows. -/
abbrev slab {N n a : ℕ} (b : Fin 2) (h : Fits N n a) : Rect (Sh3 2 N) := Rect.unit (s := Sh3 2 N) ![b.val, a, 0] (Sh3 1 n).size (inb3 b h)

theorem rows_packed {N n a : ℕ} (h : Fits N n a) : (rows h).PackedRows (EltTy.packing .bf16) :=
  .inr ⟨Nat.le_refl 2, rfl, .inl ⟨h.off, h.num⟩⟩
theorem slab_packed {N n a : ℕ} (b : Fin 2) (h : Fits N n a) : (slab b h).PackedRows (EltTy.packing .bf16) :=
  .inr ⟨Nat.le_succ 2, rfl, .inl ⟨h.off, h.num⟩⟩

theorem squeezes_slab (n : ℕ) : (Sh3 1 n).Squeezes (Sh n) := by simp [Shape.Squeezes, Shape.dropsOnes]

abbrev xW {n a : ℕ} (h : Fits 16384 n a) : Memref sig .tc .hbm (Sh n) .f32 := xM.slice (rows h) (fun _ => rfl)
abbrev oW {n a : ℕ} (h : Fits 16384 n a) : Memref sig .tc .hbm (Sh n) .bf16 := oM.slice (rows h) (fun _ => rfl)
abbrev aW {n a : ℕ} (h : Fits 16384 n a) : Memref sig .tc .vmem (Sh n) .bf16 := aM.slice (rows h) (fun _ => rfl)
abbrev b1S {n a : ℕ} (b : Fin 2) (h : Fits 4096 n a) : Memref sig .tc .vmem (Sh n) .bf16 :=
  (b1M.slice (slab b h) (fun _ => rfl)).squeeze (Sh n) (squeezes_slab n)
abbrev b2S {n a : ℕ} (b : Fin 2) (h : Fits 2048 n a) : Memref sig .tc .vmem (Sh n) .bf16 :=
  (b2M.slice (slab b h) (fun _ => rfl)).squeeze (Sh n) (squeezes_slab n)
theorem fits_stage : Fits 512 512 0 := by decide
abbrev tS (b : Fin 2) : Memref sig .tc .vmem (Sh 512) .f32 := (tM.slice (slab b fits_stage) (fun _ => rfl)).squeeze (Sh 512) (squeezes_slab 512)

theorem xW_words {n a : ℕ} (h : Fits 16384 n a) : (xW h).view.WordExact := View.wordExact_bits rfl
theorem oW_words {n a : ℕ} (h : Fits 16384 n a) : (oW h).view.WordExact :=
  (Memref.isWhole_whole main_v1).wordExact_slice rfl _ (rows_packed h).wholeWords
theorem aW_words {n a : ℕ} (h : Fits 16384 n a) : (aW h).view.WordExact :=
  (Memref.isWhole_whole cc0_scratch0).wordExact_slice rfl _ (rows_packed h).wholeWords
theorem b1S_words {n a : ℕ} (b : Fin 2) (h : Fits 4096 n a) : (b1S b h).view.WordExact :=
  ((Memref.isWhole_whole cc0_scratch1).wordExact_slice rfl _ (slab_packed b h).wholeWords).reshape _ _
theorem b2S_words {n a : ℕ} (b : Fin 2) (h : Fits 2048 n a) : (b2S b h).view.WordExact :=
  ((Memref.isWhole_whole cc0_scratch2).wordExact_slice rfl _ (slab_packed b h).wholeWords).reshape _ _
theorem tS_words (b : Fin 2) : (tS b).view.WordExact := (View.wordExact_bits rfl).reshape _ _

/-! ## Where the blocks lie -/

theorem fits_row : ∀ i c, Fits 16384 512 (row i c) := by decide +kernel
theorem fits_src1 : ∀ h q c, Fits 16384 1024 (src1 h q c) := by decide +kernel
theorem fits_rel1 : ∀ h q c, Fits 4096 1024 (rel1 h q c) := by decide +kernel
theorem fits_send2 : ∀ h (j : Fin 2) c, Fits 16384 1024 (send2 h c + 1024 * j.val) := by decide +kernel
theorem fits_keep2 : ∀ h (j : Fin 2) c, Fits 16384 1024 (keep2 h c + 1024 * j.val) := by decide +kernel
theorem fits_keep2' : ∀ h c, Fits 16384 2048 (keep2 h c) := by decide +kernel
theorem fits_block : ∀ j : Fin 2, Fits 2048 1024 (1024 * j.val) := by decide
/-- Rows, on device `c`, of the `q`-th block its partner's `q`-th block is added to. -/
def add1 (h : Fin 2) (q : Fin 4) (c : Dev nD) : ℕ := keep1 h c + rel1 h q c
theorem fits_add1 : ∀ h q c, Fits 16384 1024 (add1 h q c) := by decide +kernel

/-- A block of either size in rows of `1024`, as the vectors loaded and stored. -/
theorem pos_shape {n : ℕ} (h : 0 < n) : 0 < (Sh n).numel := by simp [Shape.numel, h]
theorem pos_shape3 {n : ℕ} (h : 0 < n) : 0 < (Sh3 1 n).numel := by simp [Shape.numel, Fin.prod_univ_succ, h]

/-! ## The sends -/

/-- The 22 blocks a device sends: the two exchanges of the reduce-scatter, and the three rounds of gathers. -/
inductive Send where
  | rs1 (h : Fin 2) (q : Fin 4)
  | rs2 (h : Fin 2) (j : Fin 2)
  | ag1 (h : Fin 2) (j : Fin 2)
  | ag2a (h : Fin 2)
  | ag2b (h : Fin 2) (j : Fin 2)
  deriving DecidableEq

/-- The semaphore a send's source waits on, and the one its destination waits on. -/
def sS : Send → DmaSem sig
  | .rs1 h q => dsem ⟨4 + 8 * h.val + q.val, by omega⟩
  | .rs2 h j => dsem ⟨36 + 7 * h.val + j.val, by omega⟩
  | .ag1 h j => dsem ⟨38 + 7 * h.val + j.val, by omega⟩
  | .ag2a h => dsem ⟨40 + 7 * h.val, by omega⟩
  | .ag2b h j => dsem ⟨41 + 7 * h.val + j.val, by omega⟩
def rS : Send → DmaSem sig
  | .rs1 h q => dsem ⟨20 + 8 * h.val + q.val, by omega⟩
  | .rs2 h j => dsem ⟨50 + 7 * h.val + j.val, by omega⟩
  | .ag1 h j => dsem ⟨52 + 7 * h.val + j.val, by omega⟩
  | .ag2a h => dsem ⟨54 + 7 * h.val, by omega⟩
  | .ag2b h j => dsem ⟨55 + 7 * h.val + j.val, by omega⟩

/-- Whom a send goes to (and, the pairing being mutual, whom the same-named block comes from). -/
def peer : Send → Dev nD → Dev nD
  | .rs1 h _ => p1 h
  | .rs2 h _ => p2 h
  | .ag1 h _ => p2 h
  | .ag2a h => p1 h
  | .ag2b h _ => p1 h

/-! ## The pieces -/

abbrev P : Type 1 := Prog (TpuEff nD τ sig (Elt F) Λ₀ .tc) PUnit

def copySem (b : Fin 2) : DmaSem sig := dsem ⟨b.val, by omega⟩
def ownSem (h : Fin 2) : DmaSem sig := dsem ⟨2 + h.val, by omega⟩

/-- Start copying rows `a` to `a + 512` of `x` into stage slot `b`. -/
def startP (b : Fin 2) {a : ℕ} (h : Fits 16384 512 a) : P (F := F) :=
  .op (.enqueueDma (xW h) (.here (tS b)) (.dma (copySem b)) (xW_words h) (tS_words b) ⟨Or.inl rfl, trivial⟩) .ret

/-- Wait for the copy into slot `b`, then store it, in the narrower format, into rows `a` to `a + 512` of the sum. -/
def takeP (b : Fin 2) {a' a : ℕ} (h' : Fits 16384 512 a') (h : Fits 16384 512 a) : P (F := F) :=
  .op (.waitDma2 (copySem b) (xW h') (tS b) (xW_words h') (tS_words b)) fun _ =>
  .op (.load tM (slab b fits_stage).toLoadRect (View.loadsAt_vmem (pos_shape3 (by decide)))) fun v =>
  .op (.load aM (rows h).toLoadRect (View.loadsAt_vmem (pos_shape (by decide)))) fun _ =>
  .op (.store aM (rows h) (k0_pay1 v) Finset.univ
    (View.stores_vmem (pos_shape (by decide)) ((Memref.isWhole_whole cc0_scratch0).storeExact_slice rfl _ (rows_packed h)) (fun _ => rfl)) (.inl rfl)) .ret

/-- Add block `r` of a landing buffer to rows `a` to `a + 1024` of the sum. -/
def addP {N a r : ℕ} (m : Memref sig .tc .vmem (Sh3 2 N) .bf16) (b : Fin 2) (h : Fits 16384 1024 a) (hr : Fits N 1024 r) : P (F := F) :=
  .op (.load aM (rows h).toLoadRect (View.loadsAt_vmem (pos_shape (by decide)))) fun u =>
  .op (.load m (slab b hr).toLoadRect (View.loadsAt_vmem (pos_shape3 (by decide)))) fun v =>
  .op (.load aM (rows h).toLoadRect (View.loadsAt_vmem (pos_shape (by decide)))) fun _ =>
  .op (.store aM (rows h) (k0_pay35 u v) Finset.univ
    (View.stores_vmem (pos_shape (by decide)) ((Memref.isWhole_whole cc0_scratch0).storeExact_slice rfl _ (rows_packed h)) (fun _ => rfl)) (.inl rfl)) .ret

/-- Send a block to the peer of `s`, completing on the two semaphores of `s`. -/
abbrev xferP (s : Send) (c : Dev nD) {n : ℕ} {sp sp' : Space} (src : Memref sig .tc sp (Sh n) .bf16) (dst : Memref sig .tc sp' (Sh n) .bf16)
    (hs : src.view.WordExact) (hd : dst.view.WordExact) (hsc : dst.view.ref.isScScratch = false)
    (ht : DmaTarget.Typed (p := Proc.tc (τ := τ)) sp (.dma (rS s)) (.remote (Dev.tc (peer s c)) dst (.dma (sS s)) hsc)) : P (F := F) :=
  .op (.enqueueDma src (.remote (Dev.tc (peer s c)) dst (.dma (sS s)) hsc) (.dma (rS s)) hs hd ht) .ret

/-- Send block `s`. -/
def sendP (s : Send) (c : Dev nD) : P (F := F) :=
  match s with
  | .rs1 h q => xferP (.rs1 h q) c (aW (fits_src1 h q c)) (b1S h (fits_rel1 h q (p1 h c))) (aW_words _) (b1S_words _ _) rfl ⟨⟨rfl, Or.inl rfl⟩, trivial⟩
  | .rs2 h j => xferP (.rs2 h j) c (aW (fits_send2 h j c)) (b2S h (fits_block j)) (aW_words _) (b2S_words _ _) rfl ⟨⟨rfl, Or.inl rfl⟩, trivial⟩
  | .ag1 h j => xferP (.ag1 h j) c (aW (fits_keep2 h j c)) (oW (fits_keep2 h j c)) (aW_words _) (oW_words _) rfl ⟨⟨rfl, Or.inl rfl⟩, trivial⟩
  | .ag2a h => xferP (.ag2a h) c (aW (fits_keep2' h c)) (oW (fits_keep2' h c)) (aW_words _) (oW_words _) rfl ⟨⟨rfl, Or.inl rfl⟩, trivial⟩
  | .ag2b h j => xferP (.ag2b h j) c (oW (fits_send2 h j c)) (oW (fits_send2 h j c)) (oW_words _) (oW_words _) rfl ⟨⟨rfl, Or.inl rfl⟩, trivial⟩

/-- Wait for block `s` of the peer to have arrived. -/
def recvP (s : Send) (c : Dev nD) : P (F := F) :=
  match s with
  | .rs1 h q => .op (.waitDma2 (rS (.rs1 h q)) (aW (fits_src1 h q c)) (b1S h (fits_rel1 h q (p1 h c))) (aW_words _) (b1S_words _ _)) .ret
  | .rs2 h j => .op (.waitDma2 (rS (.rs2 h j)) (aW (fits_send2 h j c)) (b2S h (fits_block j)) (aW_words _) (b2S_words _ _)) .ret
  | .ag1 h j => .op (.waitDma2 (rS (.ag1 h j)) (aW (fits_keep2 h j c)) (oW (fits_keep2 h j c)) (aW_words _) (oW_words _)) .ret
  | .ag2a h => .op (.waitDma2 (rS (.ag2a h)) (aW (fits_keep2' h c)) (oW (fits_keep2' h c)) (aW_words _) (oW_words _)) .ret
  | .ag2b h j => .op (.waitDma2 (rS (.ag2b h j)) (oW (fits_send2 h j c)) (oW (fits_send2 h j c)) (oW_words _) (oW_words _)) .ret

/-- Wait for block `s` to have left. -/
def doneP (s : Send) (c : Dev nD) : P (F := F) :=
  match s with
  | .rs1 h q => .op (.waitDma2 (sS (.rs1 h q)) (b1S h (fits_rel1 h q (p1 h c))) (aW (fits_src1 h q c)) (b1S_words _ _) (aW_words _)) .ret
  | .rs2 h j => .op (.waitDma2 (sS (.rs2 h j)) (b2S h (fits_block j)) (aW (fits_send2 h j c)) (b2S_words _ _) (aW_words _)) .ret
  | .ag1 h j => .op (.waitDma2 (sS (.ag1 h j)) (oW (fits_keep2 h j c)) (aW (fits_keep2 h j c)) (oW_words _) (aW_words _)) .ret
  | .ag2a h => .op (.waitDma2 (sS (.ag2a h)) (oW (fits_keep2' h c)) (aW (fits_keep2' h c)) (oW_words _) (aW_words _)) .ret
  | .ag2b h j => .op (.waitDma2 (sS (.ag2b h j)) (oW (fits_send2 h j c)) (oW (fits_send2 h j c)) (oW_words _) (oW_words _)) .ret

/-- Copy the device's own finished piece into the result, and wait for that copy. -/
def ownP (h : Fin 2) (c : Dev nD) : P (F := F) :=
  .op (.enqueueDma (aW (fits_keep2' h c)) (.here (oW (fits_keep2' h c))) (.dma (ownSem h)) (aW_words _) (oW_words _) ⟨Or.inl rfl, trivial⟩) .ret
def ownedP (h : Fin 2) (c : Dev nD) : P (F := F) :=
  .op (.waitDma2 (ownSem h) (aW (fits_keep2' h c)) (oW (fits_keep2' h c)) (aW_words _) (oW_words _)) .ret

/-- Meet both neighbours. -/
def meetP (c : Dev nD) : P (F := F) :=
  .op (.semSignal (nbrA c : Thread nD τ) barS 1) fun _ => .op (.semSignal (nbrB c : Thread nD τ) barS 1) fun _ => .op (.semWait barS 2) .ret

/-! ## The whole -/

/-- Start the copy of chunk `i + 1` and take chunk `i` in. -/
def chunkP (i : Fin 31) (c : Dev nD) : P (F := F) := do
  startP (Fin.ofNat 2 (i.val + 1)) (fits_row i.succ c)
  takeP (Fin.ofNat 2 i.val) (fits_row i.castSucc c) (fits_row i.castSucc c)

/-- Four chunks, and the two blocks they complete sent. -/
def feedP (q : Fin 4) (c : Dev nD) : P (F := F) := do
  chunkP ⟨4 * q.val, by omega⟩ c
  chunkP ⟨4 * q.val + 1, by omega⟩ c
  chunkP ⟨4 * q.val + 2, by omega⟩ c
  sendP (.rs1 0 q) c
  chunkP ⟨4 * q.val + 3, by omega⟩ c
  sendP (.rs1 1 q) c

/-- The chunks that are kept. -/
def keepP (c : Dev nD) : P (F := F) := do
  chunkP 16 c; chunkP 17 c; chunkP 18 c; chunkP 19 c; chunkP 20 c; chunkP 21 c; chunkP 22 c; chunkP 23 c
  chunkP 24 c; chunkP 25 c; chunkP 26 c; chunkP 27 c; chunkP 28 c; chunkP 29 c; chunkP 30 c
  takeP 1 (fits_row 31 c) (fits_row 31 c)

/-- Add the `q`-th block of the first exchange. -/
def sum1P (h : Fin 2) (q : Fin 4) (c : Dev nD) : P (F := F) := do
  recvP (.rs1 h q) c
  addP b1M h (fits_add1 h q c) (fits_rel1 h q c)
/-- Add the `j`-th block of the second exchange, and send the finished block on. -/
def sum2P (h : Fin 2) (j : Fin 2) (c : Dev nD) : P (F := F) := do
  recvP (.rs2 h j) c
  addP b2M h (fits_keep2 h j c) (fits_block j)
  sendP (.ag1 h j) c
def pieceP (h : Fin 2) (c : Dev nD) : P (F := F) := do
  sendP (.ag2a h) c
  ownP h c
def passP (h : Fin 2) (j : Fin 2) (c : Dev nD) : P (F := F) := do
  recvP (.ag1 h j) c
  sendP (.ag2b h j) c
def landP (h : Fin 2) (c : Dev nD) : P (F := F) := do
  recvP (.ag2a h) c; recvP (.ag2b h 0) c; recvP (.ag2b h 1) c; ownedP h c
def leaveP (h : Fin 2) (c : Dev nD) : P (F := F) := do
  doneP (.rs1 h 0) c; doneP (.rs1 h 1) c; doneP (.rs1 h 2) c; doneP (.rs1 h 3) c
  doneP (.rs2 h 0) c; doneP (.ag1 h 0) c; doneP (.ag2b h 0) c
  doneP (.rs2 h 1) c; doneP (.ag1 h 1) c; doneP (.ag2b h 1) c
  doneP (.ag2a h) c

def prog (c : Dev nD) : P (F := F) := do
  meetP c
  startP 0 (fits_row 0 c)
  feedP 0 c; feedP 1 c; feedP 2 c; feedP 3 c
  keepP c
  sum1P 0 0 c; sendP (.rs2 0 0) c
  sum1P 1 0 c; sendP (.rs2 1 0) c
  sum1P 0 1 c; sendP (.rs2 0 1) c
  sum1P 1 1 c; sendP (.rs2 1 1) c
  sum1P 0 2 c; sum1P 1 2 c; sum1P 0 3 c; sum1P 1 3 c
  sum2P 0 0 c; sum2P 1 0 c
  sum2P 0 1 c; pieceP 0 c
  sum2P 1 1 c; pieceP 1 c
  passP 0 0 c; passP 1 0 c; passP 0 1 c; passP 1 1 c
  landP 0 c; landP 1 c
  leaveP 0 c; leaveP 1 c

/-- What a program that first reads its device does on device `c`. -/
def after (p : P (F := F)) (c : Dev nD) : P (F := F) :=
  match p with
  | .op .deviceId k => k c
  | _ => .ret ⟨⟩

set_option maxRecDepth 65536 in
theorem body_reads : bodyAt0 (F := F) t0_0 = .op .deviceId (after (bodyAt0 t0_0)) := by chain_rfl

set_option maxRecDepth 65536 in
theorem body_on0 : after (bodyAt0 (F := F) t0_0) 0 = prog 0 := by chain_rfl
set_option maxRecDepth 65536 in
theorem body_on1 : after (bodyAt0 (F := F) t0_0) 1 = prog 1 := by chain_rfl
set_option maxRecDepth 65536 in
theorem body_on2 : after (bodyAt0 (F := F) t0_0) 2 = prog 2 := by chain_rfl
set_option maxRecDepth 65536 in
theorem body_on3 : after (bodyAt0 (F := F) t0_0) 3 = prog 3 := by chain_rfl

theorem body_on : ∀ c : Dev nD, after (bodyAt0 (F := F) t0_0) c = prog c
  | ⟨0, _⟩ => body_on0
  | ⟨1, _⟩ => body_on1
  | ⟨2, _⟩ => body_on2
  | ⟨3, _⟩ => body_on3

/-- The printed kernel reads its device and does that device's sequence. -/
theorem body_eq : bodyAt0 (F := F) t0_0 = .op .deviceId prog := by
  rw [body_reads]; exact congrArg _ (funext body_on)

end Cert.SumProof
end
-- ==== Proof.Rows.lean ====
/-
# Windows of rows, and what every buffer is to hold

Where the elements of each window lie, which windows are apart and which together make up a buffer, and the contents
every buffer is to hold, as functions of the memory at launch.
-/
module

public import proofs.«01_k».proof.Proof.Prog

@[expose] public section

noncomputable section

namespace Cert.SumProof

open Cert.KernelIdeal Cert.KernelIdeal.Gen
open Idealize.ShloMosaic
open Idealize.ShloMosaic.TcCoe

variable {F : FTy → Type} [FloatOps F]

/-! ## Elements by row and column -/

/-- The element of row `r` and column `k`, and the same of slab `b`. -/
def at2 {N : ℕ} (r : ℕ) (hr : r < N) (k : Fin 1024) : (Sh N).Idx := fun a => match a with | ⟨0, _⟩ => ⟨r, hr⟩ | ⟨1, _⟩ => k
def at3 {N : ℕ} (b : Fin 2) (r : ℕ) (hr : r < N) (k : Fin 1024) : (Sh3 2 N).Idx :=
  fun a => match a with | ⟨0, _⟩ => b | ⟨1, _⟩ => ⟨r, hr⟩ | ⟨2, _⟩ => k

/-- Row and column of an element. -/
abbrev ro {N : ℕ} (i : (Sh N).Idx) : ℕ := (i 0).val
abbrev co {N : ℕ} (i : (Sh N).Idx) : Fin 1024 := i 1
theorem ro_lt {N : ℕ} (i : (Sh N).Idx) : ro i < N := (i 0).isLt

theorem at2_congr {N r r' : ℕ} {hr : r < N} {hr' : r' < N} {k : Fin 1024} (e : r = r') : at2 r hr k = at2 r' hr' k := by subst e; rfl
theorem at3_congr {N r r' : ℕ} {b b' : Fin 2} {hr : r < N} {hr' : r' < N} {k : Fin 1024} (eb : b = b') (e : r = r') : at3 b r hr k = at3 b' r' hr' k := by
  subst e; subst eb; rfl
theorem at2_eta {N : ℕ} (i : (Sh N).Idx) : at2 (ro i) (ro_lt i) (co i) = i := funext fun a => by fin_cases a <;> rfl
theorem at3_eta {N : ℕ} (i : (Sh3 2 N).Idx) : at3 (i 0) (i 1).val (i 1).isLt (i 2) = i := funext fun a => by fin_cases a <;> rfl

theorem in_window {N n a : ℕ} (h : Fits N n a) (j : (Sh n).Idx) : a + ro j < N := lt_of_lt_of_le (Nat.add_lt_add_left (ro_lt j) a) h.le

/-! ## Where a window's elements lie -/

theorem rows_emb {N n a : ℕ} (h : Fits N n a) (j : (Sh n).Idx) : (rows h).emb j = at2 (a + ro j) (in_window h j) (co j) := by
  funext i; fin_cases i <;> exact Fin.ext (by show _ + 1 * _ = _; simp [at2])

theorem slab_emb {N n a : ℕ} (b : Fin 2) (h : Fits N n a) (j : (Sh3 1 n).Idx) :
    (slab b h).emb j = at3 b (a + (j 1).val) (lt_of_lt_of_le (Nat.add_lt_add_left (j 1).isLt a) h.le) (j 2) := by
  funext i
  fin_cases i
  · have h0 : (j 0).val = 0 := by have := (j 0).isLt; simp at this; omega
    exact Fin.ext (by show _ + 1 * _ = _; simp [at3, h0])
  · exact Fin.ext (by show _ + 1 * _ = _; simp [at3])
  · exact Fin.ext (by show _ + 1 * _ = _; simp [at3])

/-- The element of a one-slab block with the coordinates of `j`. -/
def lift {n : ℕ} (j : (Sh n).Idx) : (Sh3 1 n).Idx := Fin.cons ⟨0, Nat.one_pos⟩ j

theorem slab_lift {N n a : ℕ} (b : Fin 2) (h : Fits N n a) (hn : (Sh n).numel = (Sh3 1 n).numel) (j : (Sh n).Idx) :
    (slab b h).emb (Shape.reshapeEquiv hn j) = at3 b (a + ro j) (in_window h j) (co j) := by
  rw [Shape.reshapeEquiv_cons_one hn j, slab_emb]; rfl

theorem xW_emb {n a : ℕ} (h : Fits 16384 n a) (j : (Sh n).Idx) : (xW h).view.emb j = at2 (a + ro j) (in_window h j) (co j) := rows_emb h j
theorem oW_emb {n a : ℕ} (h : Fits 16384 n a) (j : (Sh n).Idx) : (oW h).view.emb j = at2 (a + ro j) (in_window h j) (co j) := rows_emb h j
theorem aW_emb {n a : ℕ} (h : Fits 16384 n a) (j : (Sh n).Idx) : (aW h).view.emb j = at2 (a + ro j) (in_window h j) (co j) := rows_emb h j
theorem b1S_emb {n a : ℕ} (b : Fin 2) (h : Fits 4096 n a) (j : (Sh n).Idx) : (b1S b h).view.emb j = at3 b (a + ro j) (in_window h j) (co j) := slab_lift b h _ j
theorem b2S_emb {n a : ℕ} (b : Fin 2) (h : Fits 2048 n a) (j : (Sh n).Idx) : (b2S b h).view.emb j = at3 b (a + ro j) (in_window h j) (co j) := slab_lift b h _ j
theorem tS_emb (b : Fin 2) (j : (Sh 512).Idx) : (tS b).view.emb j = at3 b (0 + ro j) (in_window fits_stage j) (co j) := slab_lift b fits_stage _ j

/-! ## Sets of rows -/

/-- The elements of rows `a` to `a + n`, and the same of slab `b`. -/
def band (N n a : ℕ) : Finset (Sh N).Idx := Finset.univ.filter fun i => a ≤ ro i ∧ ro i < a + n
def band3 (N : ℕ) (b : Fin 2) (n a : ℕ) : Finset (Sh3 2 N).Idx := Finset.univ.filter fun i => (i 0).val = b.val ∧ a ≤ (i 1).val ∧ (i 1).val < a + n

theorem mem_band {N n a : ℕ} {i : (Sh N).Idx} : i ∈ band N n a ↔ a ≤ ro i ∧ ro i < a + n := by simp [band]
theorem mem_band3 {N n a : ℕ} {b : Fin 2} {i : (Sh3 2 N).Idx} : i ∈ band3 N b n a ↔ (i 0).val = b.val ∧ a ≤ (i 1).val ∧ (i 1).val < a + n := by simp [band3]

theorem rows_set {N n a : ℕ} (h : Fits N n a) : (rows h).set = band N n a := by
  ext i
  rw [Rect.mem_set_unit, mem_band]
  constructor
  · intro hi; exact hi 0
  · intro hi k; fin_cases k
    · exact hi
    · exact ⟨Nat.zero_le _, by have := (i 1).isLt; simpa using this⟩

theorem slab_set {N n a : ℕ} (b : Fin 2) (h : Fits N n a) : (slab b h).set = band3 N b n a := by
  ext i
  rw [Rect.mem_set_unit, mem_band3]
  constructor
  · intro hi
    have h0 := hi 0; have h1 := hi 1
    simp only [Matrix.cons_val_zero] at h0
    refine ⟨?_, h1⟩
    have h0' : b.val ≤ (i 0).val ∧ (i 0).val < b.val + 1 := h0
    omega
  · intro hi k; fin_cases k
    · have := hi.1
      exact ⟨le_of_eq this.symm, by show (i 0).val < b.val + 1; omega⟩
    · exact hi.2
    · exact ⟨Nat.zero_le _, by have := (i 2).isLt; simpa using this⟩

theorem xW_set {n a : ℕ} (h : Fits 16384 n a) : (xW h).view.set = band 16384 n a := (View.set_slice_whole _ _).trans (rows_set h)
theorem oW_set {n a : ℕ} (h : Fits 16384 n a) : (oW h).view.set = band 16384 n a := (View.set_slice_whole _ _).trans (rows_set h)
theorem aW_set {n a : ℕ} (h : Fits 16384 n a) : (aW h).view.set = band 16384 n a := (View.set_slice_whole _ _).trans (rows_set h)
theorem b1S_set {n a : ℕ} (b : Fin 2) (h : Fits 4096 n a) : (b1S b h).view.set = band3 4096 b n a :=
  ((View.set_reshape _ _).trans (View.set_slice_whole _ _)).trans (slab_set b h)
theorem b2S_set {n a : ℕ} (b : Fin 2) (h : Fits 2048 n a) : (b2S b h).view.set = band3 2048 b n a :=
  ((View.set_reshape _ _).trans (View.set_slice_whole _ _)).trans (slab_set b h)
theorem tS_set (b : Fin 2) : (tS b).view.set = band3 512 b 512 0 :=
  ((View.set_reshape _ _).trans (View.set_slice_whole _ _)).trans (slab_set b fits_stage)

/-! ## Bands that are apart, and families that make up a whole -/

theorem band_disj {N n n' a a' : ℕ} (h : a + n ≤ a' ∨ a' + n' ≤ a) : Disjoint (band N n a) (band N n' a') :=
  Finset.disjoint_left.mpr fun i hi hi' => by rw [mem_band] at hi hi'; omega
theorem band3_disj {N n n' a a' : ℕ} {b b' : Fin 2} (h : b ≠ b' ∨ a + n ≤ a' ∨ a' + n' ≤ a) : Disjoint (band3 N b n a) (band3 N b' n' a') :=
  Finset.disjoint_left.mpr fun i hi hi' => by
    rw [mem_band3] at hi hi'
    rcases h with h | h
    · exact h (Fin.ext (hi.1.symm.trans hi'.1))
    · omega

theorem band_append {N n n' a a' : ℕ} (e : a' = a + n) : band N n a ∪ band N n' a' = band N (n + n') a := by
  ext i; rw [Finset.mem_union, mem_band, mem_band, mem_band]; omega
theorem band_join_disj {N n n' a a' : ℕ} (e : a' = a + n) : Disjoint (band N n a) (band N n' a') := band_disj (.inl (le_of_eq e.symm))

/-! ## What the buffers are to hold -/

abbrev Big (F : FTy → Type) : Type := (Sh 16384).Idx → F .bf16

variable (m : (ℓ : Loc nD τ sig) → Buf (Elt F) ℓ)

/-- Device `c`'s argument. -/
def X (c : Dev nD) : (Sh 16384).Idx → F .f32 := m ((c : Thread nD τ).loc main_arg0)

def narrow (x : F .f32) : F .bf16 := FloatOps.truncf .bf16 bitsLt_bf16_f32 x
def plus (x y : F .bf16) : F .bf16 := FloatOps.addf x y

/-- The half a row lies in. -/
def half (r : ℕ) : Fin 2 := Fin.ofNat 2 (r / 8192)
/-- The device that finishes row `r`. -/
def owner (r : ℕ) : Dev nD :=
  if half r = 0 then ⟨2 * (r / 2048 % 2) + (r / 4096 % 2 + r / 2048 % 2) % 2, by show _ < 4; omega⟩ else ⟨2 * (r / 4096 % 2) + r / 2048 % 2, by show _ < 4; omega⟩

/-- Device `c`'s rows in the narrower format; added to its first partner's; and those added to its second partner's. -/
def A0 (c : Dev nD) : Big F := fun i => narrow (X m c i)
def A1 (c : Dev nD) : Big F := fun i => plus (A0 m c i) (A0 m (p1 (half (ro i)) c) i)
def A2 (c : Dev nD) : Big F := fun i => plus (A1 m c i) (A1 m (p2 (half (ro i)) c) i)
/-- The result: each row as the device that finishes it has it. -/
def OUT : Big F := fun i => A2 m (owner (ro i)) i

/-- What lands in the two landing buffers: the partners' blocks, at the row within the receiver's quarter or piece. -/
def B1 (d : Dev nD) : (Sh3 2 4096).Idx → F .bf16 := fun i =>
  if h : keep1 (i 0) d + (i 1).val < 16384 then A0 m (p1 (i 0) d) (at2 (keep1 (i 0) d + (i 1).val) h (i 2)) else FloatOps.ofBits .bf16 0
def B2 (d : Dev nD) : (Sh3 2 2048).Idx → F .bf16 := fun i =>
  if h : keep2 (i 0) d + (i 1).val < 16384 then A1 m (p2 (i 0) d) (at2 (keep2 (i 0) d + (i 1).val) h (i 2)) else FloatOps.ofBits .bf16 0

theorem B1_at (d : Dev nD) (b : Fin 2) (r : ℕ) (hr : r < 4096) (k : Fin 1024) (h : keep1 b d + r < 16384) :
    B1 m d (at3 b r hr k) = A0 m (p1 b d) (at2 (keep1 b d + r) h k) := dif_pos h
theorem B2_at (d : Dev nD) (b : Fin 2) (r : ℕ) (hr : r < 2048) (k : Fin 1024) (h : keep2 b d + r < 16384) :
    B2 m d (at3 b r hr k) = A1 m (p2 b d) (at2 (keep2 b d + r) h k) := dif_pos h

/-! ## Row arithmetic -/

theorem p1_p1 : ∀ h c, p1 h (p1 h c) = c := by decide
theorem p2_p2 : ∀ h c, p2 h (p2 h c) = c := by decide
theorem nbrA_nbrA : ∀ c, nbrA (nbrA c) = c := by decide
theorem nbrB_nbrB : ∀ c, nbrB (nbrB c) = c := by decide
theorem keep2_p2 : ∀ h c, keep2 h (p2 h c) = send2 h c := by decide
theorem send2_p2 : ∀ h c, send2 h (p2 h c) = keep2 h c := by decide
theorem add1_lo : ∀ h (j : Fin 2) c, add1 h (Fin.castAdd 2 j) c = send2 h c + 1024 * j.val := by decide +kernel
theorem add1_hi : ∀ h (j : Fin 2) c, add1 h (Fin.natAdd 2 j) c = keep2 h c + 1024 * j.val := by decide +kernel

theorem half_of {h : Fin 2} {r : ℕ} (hl : h.val * 8192 ≤ r) (hu : r < h.val * 8192 + 8192) : half r = h := by
  refine Fin.ext ?_
  show r / 8192 % 2 = h.val
  have := h.isLt
  omega

theorem keep1_in : ∀ h c, h.val * 8192 ≤ keep1 h c ∧ keep1 h c + 4096 ≤ h.val * 8192 + 8192 := by decide
theorem rel1_in : ∀ h q c, rel1 h q c + 1024 ≤ 4096 := by decide
theorem keep2_in : ∀ h c, keep1 h c ≤ keep2 h c ∧ keep2 h c + 2048 ≤ keep1 h c + 4096 := by decide

theorem half_add1 (h : Fin 2) (q : Fin 4) (c : Dev nD) {x : ℕ} (hx : x < 1024) : half (add1 h q c + x) = h := by
  have := keep1_in h c; have := rel1_in h q c
  refine half_of ?_ ?_ <;> unfold add1 <;> omega
theorem half_keep2 (h : Fin 2) (c : Dev nD) {x : ℕ} (hx : x < 2048) : half (keep2 h c + x) = h := by
  have := keep1_in h c; have := keep2_in h c
  refine half_of ?_ ?_ <;> omega

theorem owner_base : ∀ h c, ∃ k, keep2 h c = 2048 * k ∧ owner (2048 * k) = c := fun h c =>
  ⟨keep2 h c / 2048, by revert h c; decide, by revert h c; decide +kernel⟩
theorem owner_block (k : ℕ) {x : ℕ} (hx : x < 2048) : owner (2048 * k + x) = owner (2048 * k) := by
  have e : (2048 * k + x) / 2048 = 2048 * k / 2048 := by omega
  have e' : (2048 * k + x) / 4096 = 2048 * k / 4096 := by omega
  have e'' : (2048 * k + x) / 8192 = 2048 * k / 8192 := by omega
  unfold owner half
  simp only [e, e', e'']
theorem owner_keep2 (h : Fin 2) (c : Dev nD) {x : ℕ} (hx : x < 2048) : owner (keep2 h c + x) = c := by
  obtain ⟨k, e, e'⟩ := owner_base h c
  rw [e, owner_block k hx, e']

/-! ## The stored vectors, element by element -/

theorem pay1_apply (v : (Sh3 1 512).Idx → F .f32) (j : (Sh 512).Idx) : k0_pay1 (F := F) v j = narrow (v (lift j)) := by
  show FloatOps.truncf .bf16 _ (v (Shape.reshapeEquiv _ (Shape.reshapeEquiv _ j))) = _
  rw [Shape.reshapeEquiv_self, Shape.reshapeEquiv_cons_one]; rfl

theorem pay35_apply (u : (Sh 1024).Idx → F .bf16) (v : (Sh3 1 1024).Idx → F .bf16) (j : (Sh 1024).Idx) :
    k0_pay35 (F := F) u v j = plus (u j) (v (lift j)) := by
  show FloatOps.addf (u (Shape.reshapeEquiv _ j)) (v (Shape.reshapeEquiv _ (Shape.reshapeEquiv _ j))) = _
  rw [Shape.reshapeEquiv_self, Shape.reshapeEquiv_cons_one]; rfl

end Cert.SumProof
end
-- ==== Proof.Sched.lean ====
/-
# The semaphores as cells, and what each hands over

Every semaphore the devices meet on or the sends complete on is a cell of one round. A barrier hands a device its two
neighbours' landing windows; a send's own cell hands the source back, its peer's cell hands the landed block over.
-/
module

public import proofs.«01_k».proof.Proof.Rows
public import Idealize.ShloMosaic.Lib.Transfers

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The algebra: the launch's cells, the kernel's cells, and the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_lands : (ER (F := F)).LandsIn (upEmb : UEmb _ 𝕄) := by unfold ER; infer_instance

variable (m : (ℓ : Loc nD τ sig) → Buf (Elt F) ℓ)

abbrev 𝒱₀ : Variants := Variants.none

/-! ## The cells -/

/-- The sends, kind by kind. -/
def sends : Send ≃ (Fin 2 × Fin 4) ⊕ (Fin 2 × Fin 2) ⊕ (Fin 2 × Fin 2) ⊕ Fin 2 ⊕ (Fin 2 × Fin 2) where
  toFun
    | .rs1 h q => .inl (h, q)
    | .rs2 h j => .inr (.inl (h, j))
    | .ag1 h j => .inr (.inr (.inl (h, j)))
    | .ag2a h => .inr (.inr (.inr (.inl h)))
    | .ag2b h j => .inr (.inr (.inr (.inr (h, j))))
  invFun
    | .inl p => .rs1 p.1 p.2
    | .inr (.inl p) => .rs2 p.1 p.2
    | .inr (.inr (.inl p)) => .ag1 p.1 p.2
    | .inr (.inr (.inr (.inl h))) => .ag2a h
    | .inr (.inr (.inr (.inr p))) => .ag2b p.1 p.2
  left_inv s := by cases s <;> rfl
  right_inv s := by rcases s with _ | _ | _ | _ | _ <;> rfl
instance : Fintype Send := Fintype.ofEquiv _ sends.symm

/-- A device's cells: its barrier, and for each send the one its source waits on (`false`) and the one its peer's block
    arrives on (`true`). -/
abbrev CellName : Type := Option (Bool × Send)
def semOf : CellName → SemLoc sig
  | none => .reg barS
  | some (false, s) => .dma (sS s)
  | some (true, s) => .dma (rS s)
theorem semOf_inj : Function.Injective semOf := by
  have h : ∀ a b, semOf a = semOf b → a = b := by decide +kernel
  exact fun a b => h a b

def cell (c : Dev nD) (k : CellName) : GSem nD τ sig := ((c : Thread nD τ), semOf k)
abbrev barCell (c : Dev nD) : GSem nD τ sig := cell c none
abbrev sendCell (s : Send) (c : Dev nD) : GSem nD τ sig := cell c (some (false, s))
abbrev recvCell (s : Send) (c : Dev nD) : GSem nD τ sig := cell c (some (true, s))

theorem cell_inj : Function.Injective fun p : Dev nD × CellName => cell p.1 p.2 := fun p p' h => by
  have h1 := congrArg (fun g : GSem nD τ sig => g.1.1) h
  have h2 := semOf_inj (congrArg (fun g : GSem nD τ sig => g.2) h)
  exact Prod.ext h1 h2

open Classical in
/-- The cell a semaphore is, if it is one. -/
def nameOf (sm : SemLoc sig) : Option CellName := if h : ∃ k, semOf k = sm then some h.choose else none
theorem nameOf_semOf (k : CellName) : nameOf (semOf k) = some k := by
  have h : ∃ k', semOf k' = semOf k := ⟨k, rfl⟩
  unfold nameOf; rw [dif_pos h]; exact congrArg some (semOf_inj h.choose_spec)
theorem nameOf_none {sm : SemLoc sig} (h : ∀ k, semOf k ≠ sm) : nameOf sm = none := dif_neg fun ⟨k, hk⟩ => h k hk

/-- The units the completion of a copy of `n` rows adds. -/
def credit (n : ℕ) (h : Fits 16384 n 0) : ℕ := (aW h).view.dmaCredit
theorem credit_pos {n : ℕ} (h : Fits 16384 n 0) (hn : 0 < n) : 0 < credit n h := View.dmaCredit_pos _ (pos_shape hn)
theorem fits_one : Fits 16384 1024 0 := by decide
theorem fits_two : Fits 16384 2048 0 := by decide
def amt : Send → ℕ
  | .rs1 _ _ | .rs2 _ _ | .ag1 _ _ | .ag2b _ _ => credit 1024 fits_one
  | .ag2a _ => credit 2048 fits_two
theorem amt_pos (s : Send) : 0 < amt s := by
  cases s <;> first | exact credit_pos fits_one (Nat.succ_pos _) | exact credit_pos fits_two (Nat.succ_pos _)

/-- Whether a send's peer is the neighbour of the first direction. -/
def viaA : Send → Bool
  | .rs1 h _ => h = 0
  | .rs2 h _ => h = 1
  | .ag1 h _ => h = 1
  | .ag2a h => h = 0
  | .ag2b h _ => h = 0
theorem peer_eq : ∀ s c, peer s c = if viaA s then nbrA c else nbrB c := by decide +kernel
theorem peer_peer : ∀ s c, peer s (peer s c) = c := by decide +kernel

/-! ## Windows held -/

/-- Rows of the sum, of the result, and blocks of the landing buffers, of device `c`, holding the contents `f`. -/
def aPt {n a : ℕ} (h : Fits 16384 n a) (c : Dev nD) (q : PosShare TreeShare) (f : Big F) : sProp 𝕄 :=
  (aW h).view.loc (c : Thread nD τ) ↦[(aW h).view.set]{q} f
def oPt {n a : ℕ} (h : Fits 16384 n a) (c : Dev nD) (f : Big F) : sProp 𝕄 :=
  (oW h).view.loc (c : Thread nD τ) ↦[(oW h).view.set]{fullShare} f
def b1Pt {n a : ℕ} (b : Fin 2) (h : Fits 4096 n a) (c : Dev nD) (f : (Sh3 2 4096).Idx → F .bf16) : sProp 𝕄 :=
  (b1S b h).view.loc (c : Thread nD τ) ↦[(b1S b h).view.set]{fullShare} f
def b2Pt {n a : ℕ} (b : Fin 2) (h : Fits 2048 n a) (c : Dev nD) (f : (Sh3 2 2048).Idx → F .bf16) : sProp 𝕄 :=
  (b2S b h).view.loc (c : Thread nD τ) ↦[(b2S b h).view.set]{fullShare} f

omit [FloatOps F] in
theorem aPt_congr {n a a' : ℕ} (h : Fits 16384 n a) (h' : Fits 16384 n a') (e : a = a') (c : Dev nD) (q) (f : Big F) : aPt h c q f = aPt h' c q f := by
  subst e; rfl
omit [FloatOps F] in
theorem oPt_congr {n a a' : ℕ} (h : Fits 16384 n a) (h' : Fits 16384 n a') (e : a = a') (c : Dev nD) (f : Big F) : oPt h c f = oPt h' c f := by
  subst e; rfl

/-- The share of a source a send holds until it has left: the finished piece is sent twice and copied once. -/
def Src (s : Send) (c : Dev nD) : sProp 𝕄 :=
  match s with
  | .rs1 h q => aPt (fits_src1 h q c) c fullShare (A0 m c)
  | .rs2 h j => aPt (fits_send2 h j c) c fullShare (A1 m c)
  | .ag1 h j => aPt (fits_keep2 h j c) c fullShare.left (A2 m c)
  | .ag2a h => aPt (fits_keep2' h c) c fullShare.right.left (A2 m c)
  | .ag2b h j => oPt (fits_send2 h j c) c (OUT m)

/-- The window on device `d` in which block `s` of its peer lands, holding the given contents. -/
def Land (s : Send) (d : Dev nD) (g1 : (Sh3 2 4096).Idx → F .bf16) (g2 : (Sh3 2 2048).Idx → F .bf16) (go : Big F) : sProp 𝕄 :=
  match s with
  | .rs1 h q => b1Pt h (fits_rel1 h q d) d g1
  | .rs2 h j => b2Pt h (fits_block j) d g2
  | .ag1 h j => oPt (fits_send2 h j d) d go
  | .ag2a h => oPt (fits_keep2' h (p1 h d)) d go
  | .ag2b h j => oPt (fits_send2 h j (p1 h d)) d go
/-- The block landed, and room for it. -/
def Got (s : Send) (d : Dev nD) : sProp 𝕄 := Land s d (B1 m d) (B2 m d) (OUT m)
def Room (s : Send) (d : Dev nD) : sProp 𝕄 := iprop(∃ g1 g2 go, Land (F := F) s d g1 g2 go)

omit [FloatOps F] in
instance aPt_storable {n a : ℕ} (h : Fits 16384 n a) (c q) (f : Big F) : BI.Storable (upEmb : UEmb _ 𝕄) (aPt h c q f) := by unfold aPt; infer_instance
omit [FloatOps F] in
instance oPt_storable {n a : ℕ} (h : Fits 16384 n a) (c) (f : Big F) : BI.Storable (upEmb : UEmb _ 𝕄) (oPt h c f) := by unfold oPt; infer_instance
omit [FloatOps F] in
instance b1Pt_storable {n a : ℕ} (b) (h : Fits 4096 n a) (c) (f) : BI.Storable (upEmb : UEmb _ 𝕄) (b1Pt (F := F) b h c f) := by unfold b1Pt; infer_instance
omit [FloatOps F] in
instance b2Pt_storable {n a : ℕ} (b) (h : Fits 2048 n a) (c) (f) : BI.Storable (upEmb : UEmb _ 𝕄) (b2Pt (F := F) b h c f) := by unfold b2Pt; infer_instance
instance Src_storable (s c) : BI.Storable (upEmb : UEmb _ 𝕄) (Src m s c) := by cases s <;> dsimp only [Src] <;> infer_instance
omit [FloatOps F] in
instance Land_storable (s d g1 g2 go) : BI.Storable (upEmb : UEmb _ 𝕄) (Land (F := F) s d g1 g2 go) := by cases s <;> dsimp only [Land] <;> infer_instance
instance Got_storable (s d) : BI.Storable (upEmb : UEmb _ 𝕄) (Got m s d) := by unfold Got; infer_instance
omit [FloatOps F] in
instance Room_storable (s d) : BI.Storable (upEmb : UEmb _ 𝕄) (Room (F := F) s d) := by unfold Room; infer_instance

/-! ## The schedule -/

/-- What a neighbour's barrier signal hands device `c`: that neighbour's room for every block `c` sends it. -/
def barPay (c : Dev nD) (d : Bool) : sProp 𝕄 := bigSep (Finset.univ.filter fun s => viaA s = d) fun s => Room (F := F) s (peer s c)
omit [FloatOps F] in
instance barPay_storable (c d) : BI.Storable (upEmb : UEmb _ 𝕄) (barPay (F := F) c d) := by unfold barPay; infer_instance

def dutiesOf : Option CellName → Finset Bool
  | none => ∅
  | some none => Finset.univ
  | some (some _) => {false}
def amountOf : Option CellName → ℕ
  | some (some (_, s)) => amt s
  | _ => 1
def payloadOf (c : Dev nD) (d : Bool) : Option CellName → sProp 𝕄
  | none => iprop(emp)
  | some none => barPay c d
  | some (some (false, s)) => Src m s c
  | some (some (true, s)) => Got m s c

/-- One round: a barrier has the duty `true` (the neighbour of the first direction) and `false` (of the second), of one
    unit each; every other cell the one duty of its block's units. -/
def Rd : Rounds.Schedule (GSem nD τ sig) Bool 𝕄 where
  duties g r := if r = 0 ∧ g.1.2 = .tc then dutiesOf (nameOf g.2) else ∅
  unitless _ := False
  amount g _ _ := amountOf (nameOf g.2)
  payload g _ d := payloadOf m g.1.1 d (nameOf g.2)
  amount_pos g _ _ _ := by
    rcases nameOf g.2 with _ | _ | ⟨b, s⟩
    · exact Nat.one_pos
    · exact Nat.one_pos
    · exact amt_pos s

instance payloadOf_storable (c d k) : BI.Storable (upEmb : UEmb _ 𝕄) (payloadOf m c d k) := by
  rcases k with _ | _ | ⟨_ | _, s⟩ <;> dsimp only [payloadOf] <;> infer_instance
instance Rd_payload_storable (g : GSem nD τ sig) (r : ℕ) (d : Bool) : BI.Storable (upEmb : UEmb _ 𝕄) ((Rd m).payload g r d) := by
  show BI.Storable upEmb (payloadOf m g.1.1 d (nameOf g.2)); infer_instance

theorem duties_cell (c : Dev nD) (k : CellName) : (Rd m).duties (cell c k) 0 = dutiesOf (some k) := by
  show (if (0 : ℕ) = 0 ∧ (c : Thread nD τ).2 = .tc then dutiesOf (nameOf (semOf k)) else ∅) = _
  rw [nameOf_semOf]; exact if_pos ⟨rfl, rfl⟩
theorem duties_later (g : GSem nD τ sig) : ∀ r, 1 ≤ r → (Rd m).duties g r = ∅ := fun r hr => if_neg fun h => by omega
theorem amount_cell (c : Dev nD) (k : CellName) (r : ℕ) (d : Bool) : (Rd m).amount (cell c k) r d = amountOf (some k) := by
  show amountOf (nameOf (semOf k)) = _
  rw [nameOf_semOf]
theorem payload_cell (c : Dev nD) (k : CellName) (r : ℕ) (d : Bool) : (Rd m).payload (cell c k) r d = payloadOf m c d (some k) := by
  show payloadOf m c d (nameOf (semOf k)) = _
  rw [nameOf_semOf]

theorem expect_bar (c : Dev nD) : (Rd m).expect (barCell c) 0 = 2 := by
  unfold Schedule.expect Schedule.amountOf
  rw [duties_cell, Finset.sum_congr rfl fun d _ => amount_cell m c none 0 d]; rfl
theorem expect_xfer (c : Dev nD) (b : Bool) (s : Send) : (Rd m).expect (cell c (some (b, s))) 0 = amt s := by
  unfold Schedule.expect Schedule.amountOf
  rw [duties_cell]
  show ∑ d ∈ {false}, _ = _
  rw [Finset.sum_singleton, amount_cell]; rfl

theorem rest_xfer (c : Dev nD) (b : Bool) (s : Send) :
    bigSep ((Rd m).duties (cell c (some (b, s))) 0 \ ∅) (fun d => (Rd m).payload (cell c (some (b, s))) 0 d) = payloadOf m c false (some (some (b, s))) := by
  rw [Finset.sdiff_empty, duties_cell]
  show bigSep {false} _ = _
  rw [bigSep_singleton, payload_cell]

/-- After the barrier a device has room at every peer. -/
theorem rest_bar (c : Dev nD) :
    bigSep ((Rd m).duties (barCell c) 0 \ ∅) (fun d => (Rd m).payload (barCell c) 0 d) ⊢ (bigSep Finset.univ fun s => Room (F := F) s (peer s c) : sProp 𝕄) := by
  rw [Finset.sdiff_empty, duties_cell]
  show bigSep (Finset.univ : Finset Bool) _ ⊢ _
  rw [bigSep_congr fun d _ => payload_cell m c none 0 d, bigSep_univ_eq_bigSepL [true, false] (by decide) (by decide), bigSepL_cons_cons, bigSepL_singleton,
    bigSep_filter_split Finset.univ (fun s => viaA s = true) (Φ := fun s => Room (F := F) s (peer s c))]
  rw [show (Finset.univ.filter fun s => ¬ viaA s = true) = Finset.univ.filter fun s => viaA s = false from
    Finset.filter_congr fun s _ => by rw [Bool.not_eq_true]]
  exact Entails.refl _

/-! ## The order of the sends, and what is owed -/

/-- When block `s` is sent, among a device's sends, and when it is received. -/
def pos : Send → ℕ
  | .rs1 h q => 2 * q.val + h.val
  | .rs2 h j => 8 + 2 * j.val + h.val
  | .ag1 h j => if h = 0 then 12 + 2 * j.val else 13 + 3 * j.val
  | .ag2a h => 15 + 2 * h.val
  | .ag2b h j => 18 + 2 * j.val + h.val
def rpos : Send → ℕ
  | .rs1 h q => 2 * q.val + h.val
  | .rs2 h j => 8 + 2 * j.val + h.val
  | .ag1 h j => 12 + 2 * j.val + h.val
  | .ag2a h => 16 + 3 * h.val
  | .ag2b h j => 17 + 3 * h.val + j.val
/-- When a device sees that block `s` has left. -/
def dpos : Send → ℕ
  | .rs1 h q => 11 * h.val + q.val
  | .rs2 h j => 11 * h.val + 4 + 3 * j.val
  | .ag1 h j => 11 * h.val + 5 + 3 * j.val
  | .ag2b h j => 11 * h.val + 6 + 3 * j.val
  | .ag2a h => 11 * h.val + 10
theorem pos_inj : ∀ s s', pos s = pos s' → s = s' := by decide +kernel
theorem rpos_inj : ∀ s s', rpos s = rpos s' → s = s' := by decide +kernel
theorem dpos_inj : ∀ s s', dpos s = dpos s' → s = s' := by decide +kernel
theorem pos_lt : ∀ s, pos s < 22 := by decide +kernel
theorem rpos_lt : ∀ s, rpos s < 22 := by decide +kernel
theorem dpos_lt : ∀ s, dpos s < 22 := by decide +kernel

/-- The sends from place `k` of an order on, and those before. -/
def todo (f : Send → ℕ) (k : ℕ) : Finset Send := Finset.univ.filter fun s => k ≤ f s
def gone (f : Send → ℕ) (k : ℕ) : Finset Send := Finset.univ.filter fun s => f s < k

theorem todo_next {f : Send → ℕ} (hf : ∀ s s', f s = f s' → s = s') {s : Send} {k : ℕ} (e : f s = k) : todo f k = insert s (todo f (k + 1)) := by
  ext s'
  simp only [todo, Finset.mem_insert, Finset.mem_filter, Finset.mem_univ, true_and]
  constructor
  · intro h
    rcases Nat.eq_or_lt_of_le h with h | h
    · exact .inl (hf _ _ (h.symm.trans e.symm))
    · exact .inr h
  · rintro (h | h)
    · subst h; exact le_of_eq e.symm
    · omega
theorem not_mem_todo {f : Send → ℕ} {s : Send} {k : ℕ} (e : f s = k) : s ∉ todo f (k + 1) := by
  simp only [todo, Finset.mem_filter, Finset.mem_univ, true_and]; omega
theorem gone_next {f : Send → ℕ} (hf : ∀ s s', f s = f s' → s = s') {s : Send} {k : ℕ} (e : f s = k) : gone f (k + 1) = insert s (gone f k) := by
  ext s'
  simp only [gone, Finset.mem_insert, Finset.mem_filter, Finset.mem_univ, true_and]
  constructor
  · intro h
    rcases Nat.eq_or_lt_of_le (Nat.le_of_lt_succ h) with h | h
    · exact .inl (hf _ _ (h.trans e.symm))
    · exact .inr h
  · rintro (h | h)
    · subst h; omega
    · omega
theorem not_mem_gone {f : Send → ℕ} {s : Send} {k : ℕ} (e : f s = k) : s ∉ gone f k := by
  simp only [gone, Finset.mem_filter, Finset.mem_univ, true_and]; omega
theorem todo_zero (f : Send → ℕ) : todo f 0 = Finset.univ := Finset.filter_true_of_mem fun _ _ => Nat.zero_le _
theorem gone_zero (f : Send → ℕ) : gone f 0 = ∅ := Finset.filter_false_of_mem fun _ _ => Nat.not_lt_zero _
theorem todo_last {f : Send → ℕ} (h : ∀ s, f s < 22) : todo f 22 = ∅ := Finset.filter_false_of_mem fun s _ => by have := h s; omega
theorem gone_last {f : Send → ℕ} (h : ∀ s, f s < 22) : gone f 22 = Finset.univ := Finset.filter_true_of_mem fun s _ => h s

/-- What device `c` owes its peers with `k` blocks sent. -/
def debt (c : Dev nD) (k : ℕ) : CellTallies nD τ sig Unit := ∑ s ∈ todo pos k, tallyAt (recvCell s (peer s c)) () (amt s)
theorem debt_next {s : Send} {k : ℕ} (c : Dev nD) (e : pos s = k) : debt c k = debt c (k + 1) + tallyAt (recvCell s (peer s c)) () (amt s) := by
  unfold debt; rw [todo_next pos_inj e, Finset.sum_insert (not_mem_todo e), add_comm]
theorem debt_last (c : Dev nD) : debt c 22 = 0 := by unfold debt; rw [todo_last pos_lt, Finset.sum_empty]

/-- What device `c` owes at launch: all blocks, and a unit to each neighbour's barrier. -/
def debt₁ (c : Dev nD) : CellTallies nD τ sig Unit := debt c 0 + tallyAt (barCell (nbrB c)) () 1
def debt₀ (c : Dev nD) : CellTallies nD τ sig Unit := debt₁ c + tallyAt (barCell (nbrA c)) () 1

/-! ## Levels -/

def stage : Send → ℕ
  | .rs1 _ _ => 2
  | .rs2 _ _ => 3
  | .ag1 _ _ => 4
  | .ag2a _ => 5
  | .ag2b _ _ => 6
theorem stage_pos : ∀ s, 0 < stage s := by decide +kernel
def levelOf : Option CellName → ℕ
  | some none => 1
  | some (some (true, s)) => stage s
  | _ => 0
def lv (g : GSem nD τ sig) (_ : Unit) : ℕ := levelOf (nameOf g.2)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CellName) : lv (cell c k) () = levelOf (some k) := by
  show levelOf (nameOf (semOf k)) = _
  rw [nameOf_semOf]

theorem tallyAt_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem debt_pos {c : Dev nD} {k : ℕ} {g : GSem nD τ sig} {u : Unit} (h : 0 < debt c k g u) : ∃ s, k ≤ pos s ∧ g = recvCell s (peer s c) := by
  unfold debt at h
  rw [Finset.sum_apply, Finsupp.finset_sum_apply] at h
  obtain ⟨s, hs, hp⟩ := (Finset.sum_pos_iff).mp h
  exact ⟨s, (Finset.mem_filter.mp hs).2, tallyAt_pos hp⟩

theorem stage_bar : ∀ s, 0 ≤ pos s → 1 < stage s := by decide +kernel

/-- A wait on a semaphore below everything still owed. -/
theorem mayWait (c : Dev nD) (sm : SemLoc sig) (k b : ℕ) (hsm : levelOf (nameOf sm) ≤ b) (h : ∀ s, k ≤ pos s → b < stage s) :
    (levAts L lv : sProp 𝕄) ⊢ MayWait (c : Thread nD τ) sm () (debt c k) := by
  refine MayOwe.of_cut (L := L) (lev := lv) b (fun p hp => by rw [Finset.mem_singleton.mp hp, L_tc]; exact Finset.mem_singleton_self _)
    (fun g u hg => ?_) (fun p hp => by rw [Finset.mem_singleton.mp hp]; exact hsm) (fun g u hg => ?_)
  · obtain ⟨s, -, rfl⟩ := debt_pos hg; exact Finset.mem_singleton_self _
  · obtain ⟨s, hs, rfl⟩ := debt_pos hg; cases u; rw [lv_cell]; exact h s hs

/-- A wait on a semaphore that is no cell. -/
theorem mayWait_local (c : Dev nD) (sm : SemLoc sig) (hsm : ∀ k, semOf k ≠ sm) (k : ℕ) :
    (levAts L lv : sProp 𝕄) ⊢ MayWait (c : Thread nD τ) sm () (debt c k) :=
  mayWait c sm k 0 (by rw [nameOf_none hsm]; exact Nat.le_refl 0) fun s _ => stage_pos s

end Cert.SumProof
end
-- ==== Proof.Steps.lean ====
/-
# What each piece of the kernel does

One theorem for each piece: what a device holds before it and after it.
-/
module

public import proofs.«01_k».proof.Proof.Sched

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CellName → ℕ)

/-! ## What every device knows -/

/-- Every cell's invariant, that round 0 of every cell is reached, and the levels. -/
def invs : sProp 𝕄 := bigSep Finset.univ fun p : Dev nD × CellName => cellInv ER (Rd m) (K p) (cell p.1 p.2)
def marks : sProp 𝕄 := bigSep Finset.univ fun p : Dev nD × CellName => reached (ER (F := F)) (cell p.1 p.2) 0
def Ctx : sProp 𝕄 := iprop(invs m K ∗ marks (F := F) ∗ levAts L lv)

instance invs_persistent : BI.Persistent (invs m K) := by unfold invs; infer_instance
omit [FloatOps F] in
instance marks_persistent : BI.Persistent (marks (F := F)) := by unfold marks; infer_instance
instance Ctx_persistent : BI.Persistent (Ctx m K) := by unfold Ctx; infer_instance

theorem Ctx_inv (c : Dev nD) (k : CellName) : Ctx m K ⊢ cellInv ER (Rd m) (K (c, k)) (cell c k) := by
  unfold Ctx invs
  exact sep_elim_left.trans (bigSep_elim (Finset.mem_univ (c, k)))
theorem Ctx_mark (c : Dev nD) (k : CellName) : Ctx m K ⊢ reached ER (cell c k) 0 := by
  unfold Ctx marks
  exact (sep_elim_right.trans sep_elim_left).trans (bigSep_elim (Finset.mem_univ (c, k)))
theorem Ctx_lev : Ctx m K ⊢ levAts L lv := by
  unfold Ctx
  exact sep_elim_right.trans sep_elim_right

/-! ## Pieces in sequence -/

abbrev WP (c : Dev nD) (p : P (F := F)) (Q : PUnit → sProp 𝕄) : sProp 𝕄 := wp frame (wpE (defs₀ (F := F)) 𝒱₀ (c : Thread nD τ) none) Set.univ p Q

/-- On device `c`, holding `A`, the piece `p` runs and leaves `B`. -/
def Does (c : Dev nD) (A : sProp 𝕄) (p : P (F := F)) (B : sProp 𝕄) : Prop :=
  ∀ Q : PUnit → sProp 𝕄, iprop(Ctx m K ∗ A) ⊢ iprop((B -∗ Q ⟨⟩) -∗ WP c p Q)

variable {m K} {c : Dev nD}

theorem Does.seq {A B C : sProp 𝕄} {p q : P (F := F)} (h : Does m K c A p B) (h' : Does m K c B q C) : Does m K c A (p >>= fun _ => q) C := by
  intro Q
  iintro ⟨#Hc, HA⟩ Hk
  rw [WP, wp_bind]
  iapply (h _) $$ [HA]
  · isplitr; · iexact Hc
    iexact HA
  iintro HB
  iapply (h' Q) $$ [HB]
  · isplitr; · iexact Hc
    iexact HB
  iexact Hk

theorem Does.frame {A B : sProp 𝕄} {p : P (F := F)} (R : sProp 𝕄) (h : Does m K c A p B) : Does m K c iprop(A ∗ R) p iprop(B ∗ R) := by
  intro Q
  iintro ⟨#Hc, HA, HR⟩ Hk
  iapply (h Q) $$ [HA]
  · isplitr; · iexact Hc
    iexact HA
  iintro HB
  iapply Hk
  isplitl [HB] <;> iassumption

theorem Does.conseq {A A' B B' : sProp 𝕄} {p : P (F := F)} (hA : A' ⊢ A) (hB : B ⊢ B') (h : Does m K c A p B) : Does m K c A' p B' := by
  intro Q
  iintro ⟨#Hc, HA⟩ Hk
  ihave HA := hA $$ HA
  iapply (h Q) $$ [HA]
  · isplitr; · iexact Hc
    iexact HA
  iintro HB
  iapply Hk
  iapply hB
  iexact HB

variable (m K) (c : Dev nD)

/-! ## What is owed, and the barrier -/

/-- Device `c` owes its peers what it does with `k` blocks sent. -/
def Owe (c : Dev nD) (k : ℕ) : sProp 𝕄 := iprop(∃ W, owes (c : Thread nD τ) (debt c k) W)

theorem room_signalled (n : Dev nD → Dev nD) (b : Bool) (hn : ∀ c, n (n c) = c) (hp : ∀ s c, viaA s = b → peer s c = n c) :
    (bigSep (Finset.univ.filter fun s => viaA s = b) fun s => Room (F := F) s c) ⊢ barPay (n c) b := by
  unfold barPay
  refine bigSep_mono fun s hs => ?_
  rw [hp s _ (Finset.mem_filter.mp hs).2, hn]
  exact BI.Entails.refl _

omit [FloatOps F] in
theorem room_split : (bigSep Finset.univ fun s => Room (F := F) s c)
    ⊢ (iprop((bigSep (Finset.univ.filter fun s => viaA s = true) fun s => Room (F := F) s c) ∗ bigSep (Finset.univ.filter fun s => viaA s = false) fun s => Room (F := F) s c) : sProp 𝕄) := by
  rw [bigSep_filter_split Finset.univ (fun s => viaA s = true) (Φ := fun s => Room (F := F) s c),
    show (Finset.univ.filter fun s => ¬ viaA s = true) = Finset.univ.filter fun s => viaA s = false from
      Finset.filter_congr fun s _ => by rw [Bool.not_eq_true]]
  exact BI.Entails.refl _

theorem meet_does : Does m K c
    iprop((∃ W, owes (c : Thread nD τ) (debt₀ c) W) ∗ dutyTok ER (barCell (nbrA c)) 0 true ∗ dutyTok ER (barCell (nbrB c)) 0 false
      ∗ (bigSep Finset.univ fun s => Room (F := F) s c) ∗ cred (tallyAt (barCell c) () 2) ∗ atPos ER (barCell c) 0 ∅ 0)
    (meetP c)
    iprop(Owe c 0 ∗ atPos ER (barCell c) 1 ∅ 0 ∗ bigSep Finset.univ fun s => Room (F := F) s (peer s c)) := by
  intro Q
  unfold meetP
  iintro ⟨#Hc, ⟨%W, HO⟩, HtA, HtB, Hroom, Hcr, Hat⟩ Hk
  ihave Hroom := (room_split c) $$ Hroom
  icases Hroom with ⟨HrA, HrB⟩
  iapply (Rounds.wp_signal 𝒱₀ ER (Rd m) (c : Thread nD τ) none (dst := (nbrA c : Thread nD τ)) (sem := barS) (κ := K (nbrA c, none)) (r := 0) (d := true)
      (by show true ∈ (Rd m).duties (barCell (nbrA c)) 0; rw [duties_cell]; exact Finset.mem_univ _) (amount_cell m (nbrA c) none 0 true) () (debt₁ c) rfl) $$ [HO HtA HrA]
  · isplitr; · iapply (Ctx_inv m K (nbrA c) none); iexact Hc
    isplitl [HO]; · iexact HO
    isplitl [HtA]; · iexact HtA
    isplitl [HrA]
    · iapply (show barPay (nbrA c) true ⊢ (Rd m).payload ((nbrA c : Thread nD τ), .reg barS) 0 true from Entails.of_eq (payload_cell m (nbrA c) none 0 true).symm)
      iapply (room_signalled c nbrA true nbrA_nbrA (fun s c h => by rw [peer_eq, if_pos h])); iexact HrA
    iapply (Ctx_mark m K (nbrA c) none); iexact Hc
  iintro HO
  iapply (Rounds.wp_signal 𝒱₀ ER (Rd m) (c : Thread nD τ) none (dst := (nbrB c : Thread nD τ)) (sem := barS) (κ := K (nbrB c, none)) (r := 0) (d := false)
      (by show false ∈ (Rd m).duties (barCell (nbrB c)) 0; rw [duties_cell]; exact Finset.mem_univ _) (amount_cell m (nbrB c) none 0 false) () (debt c 0) rfl) $$ [HO HtB HrB]
  · isplitr; · iapply (Ctx_inv m K (nbrB c) none); iexact Hc
    isplitl [HO]; · iexact HO
    isplitl [HtB]; · iexact HtB
    isplitl [HrB]
    · iapply (show barPay (nbrB c) false ⊢ (Rd m).payload ((nbrB c : Thread nD τ), .reg barS) 0 false from Entails.of_eq (payload_cell m (nbrB c) none 0 false).symm)
      iapply (room_signalled c nbrB false nbrB_nbrB (fun s c h => by rw [peer_eq, h]; rfl))
      iexact HrB
    iapply (Ctx_mark m K (nbrB c) none); iexact Hc
  iintro HO
  iapply (Rounds.wp_wait_rest_token 𝒱₀ ER (Rd m) (c : Thread nD τ) none (κ := K (c, none))
      (wpE_semWait_eq 𝒱₀ (c : Thread nD τ) none Set.univ) (Set.mem_univ _) () (O := debt c 0) (W := W) (R := 0) (m := 0) (T := ∅)
      ((show 0 + 2 = 2 from rfl).trans (expect_bar m c).symm)) $$ [Hcr HO Hat]
  · isplitr; · iapply (Ctx_inv m K c none); iexact Hc
    isplitl [Hcr]; · iexact Hcr
    isplitl [HO]; · iexact HO
    isplitr
    · iapply (mayWait c (.reg barS) 0 1 (by rw [show SemLoc.reg barS = semOf none from rfl, nameOf_semOf]; exact Nat.le_refl 1) stage_bar)
      iapply (Ctx_lev m K); iexact Hc
    iexact Hat
  iintro ⟨HO, Hat, -, Hpay⟩
  ihave Hr := (show bigSep ((Rd m).duties ((c : Thread nD τ), .reg barS) 0 \ ∅) (fun d => (Rd m).payload ((c : Thread nD τ), .reg barS) 0 d)
    ⊢ (bigSep Finset.univ fun s => Room (F := F) s (peer s c) : sProp 𝕄) from rest_bar m c) $$ Hpay
  rw [wp_ret]; imodintro
  iapply Hk
  isplitl [HO]; · unfold Owe; iexists _; iexact HO
  isplitl [Hat]; · iexact Hat
  iexact Hr

/-! ## Sends -/

omit [FloatOps F] in
/-- Contents written through a view agree with `g` on its elements if they do one by one. -/
theorem landed_as {sp : Space} {s : Shape} {e : EltTy} {c : Thread nD τ} (v : View sig c.2.kind sp s e) (q : PosShare TreeShare) (fd g : Buf (Elt F) (v.loc c)) (w : s.Idx → Elt F e)
    (h : ∀ j, v.write (Elt F) fd w Finset.univ (v.emb j) = g (v.emb j)) :
    (v.loc c ↦[v.set]{q} v.write (Elt F) fd w Finset.univ : sProp 𝕄) = v.loc c ↦[v.set]{q} g :=
  pointsTo_congr fun i hi => by obtain ⟨j, -, rfl⟩ := Finset.mem_map.mp hi; exact h j

/-- What device `c` needs to send block `s`: the two duties to discharge and the peer's room. -/
def Go (s : Send) (c : Dev nD) : sProp 𝕄 := iprop(dutyTok ER (sendCell s c) 0 false ∗ dutyTok ER (recvCell s (peer s c)) 0 false ∗ Room (F := F) s (peer s c))

theorem xfer_does (s : Send) {n : ℕ} {sp sp' : Space} {src : Memref sig .tc sp (Sh n) .bf16} {dst : Memref sig .tc sp' (Sh n) .bf16}
    {hs : src.view.WordExact} {hd : dst.view.WordExact} {hsc : dst.view.ref.isScScratch = false}
    {ht : DmaTarget.Typed (p := Proc.tc (τ := τ)) sp (.dma (rS s)) (.remote (Dev.tc (peer s c)) dst (.dma (sS s)) hsc)}
    (q : PosShare TreeShare) (fs : Buf (Elt F) (src.view.loc (c : Thread nD τ))) (fd : Buf (Elt F) (dst.view.loc (peer s c : Thread nD τ)))
    (hN : dst.view.dmaCredit = amt s)
    (h₁ : (src.view.loc (c : Thread nD τ) ↦[src.view.set]{q} fs : sProp 𝕄) ⊢ Src m s c)
    (h₂ : (dst.view.loc (peer s c : Thread nD τ) ↦[dst.view.set]{fullShare} (dst.view.write (Elt F) fd (src.view.read (Elt F) fs) Finset.univ) : sProp 𝕄) ⊢ Got m s (peer s c)) :
    Does m K c
      iprop(Owe c (pos s) ∗ dutyTok ER (sendCell s c) 0 false ∗ dutyTok ER (recvCell s (peer s c)) 0 false
        ∗ (src.view.loc (c : Thread nD τ) ↦[src.view.set]{q} fs) ∗ (dst.view.loc (peer s c : Thread nD τ) ↦[dst.view.set]{fullShare} fd))
      (xferP s c src dst hs hd hsc ht)
      iprop(Owe c (pos s + 1) ∗ cred (tallyAt (sendCell s c) () (amt s))) := by
  intro Q
  unfold xferP Owe
  iintro ⟨#Hc, ⟨%W, HO⟩, Ht, Ht', Hs, Hd⟩ Hk
  iapply (Rounds.wp_send_pointsTo 𝒱₀ ER (Rd m) (c : Thread nD τ) none (κ₁ := K (c, some (false, s))) (κ₂ := K (peer s c, some (true, s)))
      (r₁ := 0) (r₂ := 0) (d₁ := false) (d₂ := false) (fd := fd)
      (by show false ∈ (Rd m).duties (sendCell s c) 0; rw [duties_cell]; exact Finset.mem_singleton_self _)
      (by show false ∈ (Rd m).duties (recvCell s (peer s c)) 0; rw [duties_cell]; exact Finset.mem_singleton_self _)
      () () (amt s) (show dst.view.amount (.dma (rS s)) = amt s from hN) (amount_cell m c (some (false, s)) 0 false) (amount_cell m (peer s c) (some (true, s)) 0 false) (debt c (pos s + 1)) (debt_next c rfl) (W := W)
      (h₁.trans (Entails.of_eq (payload_cell m c (some (false, s)) 0 false).symm)) (h₂.trans (Entails.of_eq (payload_cell m (peer s c) (some (true, s)) 0 false).symm)))
    $$ [HO Ht Ht' Hs Hd]
  · isplitr; · iapply (Ctx_inv m K c (some (false, s))); iexact Hc
    isplitr; · iapply (Ctx_inv m K (peer s c) (some (true, s))); iexact Hc
    isplitl [Hs]; · iexact Hs
    isplitl [Hd]; · iexact Hd
    isplitl [HO]; · iexact HO
    isplitl [Ht]; · iexact Ht
    isplitr; · iapply (Ctx_mark m K c (some (false, s))); iexact Hc
    isplitl [Ht']; · iexact Ht'
    iapply (Ctx_mark m K (peer s c) (some (true, s))); iexact Hc
  iintro ⟨Hcr, HO⟩
  rw [wp_ret]; imodintro
  iapply Hk
  isplitl [HO]; · iexists _; iexact HO
  iexact Hcr

theorem xfer_room (s : Send) {n : ℕ} {sp sp' : Space} {src : Memref sig .tc sp (Sh n) .bf16} {dst : Memref sig .tc sp' (Sh n) .bf16}
    {hs : src.view.WordExact} {hd : dst.view.WordExact} {hsc : dst.view.ref.isScScratch = false}
    {ht : DmaTarget.Typed (p := Proc.tc (τ := τ)) sp (.dma (rS s)) (.remote (Dev.tc (peer s c)) dst (.dma (sS s)) hsc)}
    (q : PosShare TreeShare) (fs : Buf (Elt F) (src.view.loc (c : Thread nD τ))) (g : Buf (Elt F) (dst.view.loc (peer s c : Thread nD τ)))
    (hN : dst.view.dmaCredit = amt s)
    (h₁ : Src m s c = (src.view.loc (c : Thread nD τ) ↦[src.view.set]{q} fs : sProp 𝕄))
    (h₂ : Got m s (peer s c) = (dst.view.loc (peer s c : Thread nD τ) ↦[dst.view.set]{fullShare} g : sProp 𝕄))
    (hr : ∀ g1 g2 go, ∃ fd, Land (F := F) s (peer s c) g1 g2 go = (dst.view.loc (peer s c : Thread nD τ) ↦[dst.view.set]{fullShare} fd : sProp 𝕄))
    (hg : ∀ fd j, dst.view.write (Elt F) fd (src.view.read (Elt F) fs) Finset.univ (dst.view.emb j) = g (dst.view.emb j)) :
    Does m K c iprop(Owe c (pos s) ∗ Go s c ∗ Src m s c) (xferP s c src dst hs hd hsc ht)
      iprop(Owe c (pos s + 1) ∗ cred (tallyAt (sendCell s c) () (amt s))) := by
  intro Q
  unfold Go Room
  iintro ⟨#Hc, HO, ⟨Ht, Ht', ⟨%g1, %g2, %go, Hd⟩⟩, Hs⟩ Hk
  obtain ⟨fd, e⟩ := hr g1 g2 go
  ihave Hd := (Entails.of_eq e) $$ [Hd]; · iexact Hd
  iapply (xfer_does m K c s q fs fd hN (Entails.of_eq h₁.symm) (Entails.of_eq ((landed_as (c := (peer s c : Thread nD τ)) dst.view fullShare fd g _ (hg fd)).trans h₂.symm)) Q)
    $$ [HO Ht Ht' Hd Hs]
  · isplitr; · iexact Hc
    isplitl [HO]; · iexact HO
    isplitl [Ht]; · iexact Ht
    isplitl [Ht']; · iexact Ht'
    isplitl [Hs]; · iapply (Entails.of_eq h₁); iexact Hs
    iexact Hd
  iexact Hk

theorem credit_a {n a : ℕ} (h : Fits 16384 n a) (h0 : Fits 16384 n 0) : (aW h).view.dmaCredit = credit n h0 := rfl
theorem credit_o {n a : ℕ} (h : Fits 16384 n a) (h0 : Fits 16384 n 0) : (oW h).view.dmaCredit = credit n h0 := rfl
theorem credit_b1 {n a : ℕ} (b : Fin 2) (h : Fits 4096 n a) (h0 : Fits 16384 n 0) : (b1S b h).view.dmaCredit = credit n h0 := rfl
theorem credit_b2 {n a : ℕ} (b : Fin 2) (h : Fits 2048 n a) (h0 : Fits 16384 n 0) : (b2S b h).view.dmaCredit = credit n h0 := rfl

/-- The contents of the landing windows are the contents of the sources, row for row. -/
theorem rs1_lands (h : Fin 2) (q : Fin 4) (c : Dev nD) (j : (Sh 1024).Idx) :
    A0 m c ((aW (fits_src1 h q c)).view.emb j) = B1 m (p1 h c) ((b1S h (fits_rel1 h q (p1 h c))).view.emb j) := by
  rw [aW_emb, b1S_emb, B1_at m (p1 h c) h _ _ _ (by have := in_window (fits_src1 h q c) j; unfold src1 at this; omega), p1_p1]
  exact congrArg _ (at2_congr (by unfold src1; omega))
theorem rs2_lands (h : Fin 2) (i : Fin 2) (c : Dev nD) (j : (Sh 1024).Idx) :
    A1 m c ((aW (fits_send2 h i c)).view.emb j) = B2 m (p2 h c) ((b2S h (fits_block i)).view.emb j) := by
  have e : keep2 h (p2 h c) + (1024 * i.val + ro j) = send2 h c + 1024 * i.val + ro j := by rw [keep2_p2]; omega
  rw [aW_emb, b2S_emb, B2_at m (p2 h c) h _ _ _ (by rw [e]; exact in_window (fits_send2 h i c) j), p2_p2]
  exact congrArg _ (at2_congr e.symm)
theorem piece_lands (h : Fin 2) (c : Dev nD) {n a : ℕ} (x : ℕ) (hf : Fits 16384 n a) (ha : a = keep2 h c + x) (hx : x + n ≤ 2048) (j : (Sh n).Idx) :
    A2 m c ((aW hf).view.emb j) = OUT m ((oW hf).view.emb j) := by
  rw [aW_emb, oW_emb]
  have e : owner (ro (at2 (N := 16384) (a + ro j) (in_window hf j) (co j))) = c := by
    show owner (a + ro j) = c
    rw [ha, Nat.add_assoc]
    exact owner_keep2 h c (by have := ro_lt j; omega)
  unfold OUT; rw [e]

theorem Got_ag1 (h j : Fin 2) (c : Dev nD) : Got m (.ag1 h j) (p2 h c) = oPt (fits_keep2 h j c) (p2 h c) (OUT m) :=
  oPt_congr _ _ (by rw [send2_p2]) _ _
theorem Got_ag2a (h : Fin 2) (c : Dev nD) : Got m (.ag2a h) (p1 h c) = oPt (fits_keep2' h c) (p1 h c) (OUT m) := oPt_congr _ _ (by rw [p1_p1]) _ _
theorem Got_ag2b (h j : Fin 2) (c : Dev nD) : Got m (.ag2b h j) (p1 h c) = oPt (fits_send2 h j c) (p1 h c) (OUT m) := oPt_congr _ _ (by rw [p1_p1]) _ _

theorem send_does (s : Send) : Does m K c iprop(Owe c (pos s) ∗ Go s c ∗ Src m s c) (sendP s c)
    iprop(Owe c (pos s + 1) ∗ cred (tallyAt (sendCell s c) () (amt s))) := by
  cases s with
  | rs1 h q =>
    exact xfer_room m K c (.rs1 h q) fullShare (A0 m c) (B1 m (p1 h c)) (credit_b1 _ _ _) rfl rfl (fun g1 _ _ => ⟨g1, rfl⟩)
      (fun fd j => (View.write_emb_of_mem _ _ (Finset.mem_univ _)).trans (rs1_lands m h q c j))
  | rs2 h i =>
    exact xfer_room m K c (.rs2 h i) fullShare (A1 m c) (B2 m (p2 h c)) (credit_b2 _ _ _) rfl rfl (fun _ g2 _ => ⟨g2, rfl⟩)
      (fun fd j => (View.write_emb_of_mem _ _ (Finset.mem_univ _)).trans (rs2_lands m h i c j))
  | ag1 h i =>
    exact xfer_room m K c (.ag1 h i) fullShare.left (A2 m c) (OUT m) (credit_o _ _) rfl (Got_ag1 m h i c)
      (fun _ _ go => ⟨go, oPt_congr _ _ (by show send2 h (p2 h c) + _ = _; rw [send2_p2]) _ _⟩)
      (fun fd j => (View.write_emb_of_mem _ _ (Finset.mem_univ _)).trans (piece_lands m h c (1024 * i.val) (fits_keep2 h i c) rfl (by have := i.isLt; omega) j))
  | ag2a h =>
    exact xfer_room m K c (.ag2a h) fullShare.right.left (A2 m c) (OUT m) (credit_o _ _) rfl (Got_ag2a m h c)
      (fun _ _ go => ⟨go, oPt_congr _ _ (by show keep2 h (p1 h (p1 h c)) = _; rw [p1_p1]) _ _⟩)
      (fun fd j => (View.write_emb_of_mem _ _ (Finset.mem_univ _)).trans (piece_lands m h c 0 (fits_keep2' h c) (Nat.add_zero _).symm (by omega) j))
  | ag2b h i =>
    exact xfer_room m K c (.ag2b h i) fullShare (OUT m) (OUT m) (credit_o _ _) rfl (Got_ag2b m h i c)
      (fun _ _ go => ⟨go, oPt_congr _ _ (by show send2 h (p1 h (p1 h c)) + _ = _; rw [p1_p1]) _ _⟩)
      (fun fd j => (View.write_emb_of_mem _ _ (Finset.mem_univ _)).trans rfl)

/-! ## Waits for blocks -/

theorem wait_does (b : Bool) (s : Send) (k : ℕ) {sem : DmaSem sig} (hsem : semOf (some (b, s)) = .dma sem) {sp sp' : Space} {n n' : Shape} {e e' : EltTy}
    {src : Memref sig .tc sp n e} {dst : Memref sig .tc sp' n' e'}
    {hs : src.view.WordExact} {hd : dst.view.WordExact} (hN : dst.view.dmaCredit = amt s) (hlt : ∀ s', k ≤ pos s' → levelOf (some (some (b, s))) < stage s') :
    Does m K c iprop(Owe c k ∗ cred (tallyAt (cell c (some (b, s))) () (amt s)) ∗ atPos ER (cell c (some (b, s))) 0 ∅ 0)
      (.op (.waitDma2 sem src dst hs hd) .ret)
      iprop(Owe c k ∗ atPos ER (cell c (some (b, s))) 1 ∅ 0 ∗ payloadOf m c false (some (some (b, s)))) := by
  intro Q
  unfold cell Owe
  rw [hsem]
  iintro ⟨#Hc, ⟨%W, HO⟩, Hcr, Hat⟩ Hk
  iapply (Rounds.wp_wait_rest_token 𝒱₀ ER (Rd m) (c : Thread nD τ) none (κ := K (c, some (b, s)))
      (wpE_waitDma2_eq 𝒱₀ (c : Thread nD τ) none Set.univ) (Set.mem_univ _) () (O := debt c k) (W := W) (R := 0) (m := 0) (T := ∅)
      (by rw [Nat.zero_add, hN, ← hsem]; exact (expect_xfer m c b s).symm)) $$ [Hcr HO Hat]
  · isplitr; · rw [← hsem]; iapply (Ctx_inv m K c (some (b, s))); iexact Hc
    isplitl [Hcr]; · rw [hN]; iexact Hcr
    isplitl [HO]; · iexact HO
    isplitr
    · iapply (mayWait c (.dma sem) k (levelOf (some (some (b, s)))) (by rw [← hsem, nameOf_semOf]) hlt)
      iapply (Ctx_lev m K); iexact Hc
    iexact Hat
  iintro ⟨HO, Hat, -, Hpay⟩
  rw [wp_ret]; imodintro
  iapply Hk
  isplitl [HO]; · iexists _; iexact HO
  isplitl [Hat]; · iexact Hat
  rw [← hsem]
  iapply (Entails.of_eq (rest_xfer m c b s)); iexact Hpay

/-- The block of its peer arrives. -/
theorem recv_does (s : Send) (k : ℕ) (hlt : ∀ s', k ≤ pos s' → stage s < stage s') :
    Does m K c iprop(Owe c k ∗ cred (tallyAt (recvCell s c) () (amt s)) ∗ atPos ER (recvCell s c) 0 ∅ 0) (recvP s c)
      iprop(Owe c k ∗ atPos ER (recvCell s c) 1 ∅ 0 ∗ Got m s c) := by
  cases s with
  | rs1 h q => exact wait_does m K c true (.rs1 h q) k rfl (credit_b1 _ _ _) hlt
  | rs2 h j => exact wait_does m K c true (.rs2 h j) k rfl (credit_b2 _ _ _) hlt
  | ag1 h j => exact wait_does m K c true (.ag1 h j) k rfl (credit_o _ _) hlt
  | ag2a h => exact wait_does m K c true (.ag2a h) k rfl (credit_o _ _) hlt
  | ag2b h j => exact wait_does m K c true (.ag2b h j) k rfl (credit_o _ _) hlt

/-- A block has left, and its source is the device's again. -/
theorem done_does (s : Send) :
    Does m K c iprop(Owe c 22 ∗ cred (tallyAt (sendCell s c) () (amt s)) ∗ atPos ER (sendCell s c) 0 ∅ 0) (doneP s c)
      iprop(Owe c 22 ∗ atPos ER (sendCell s c) 1 ∅ 0 ∗ Src m s c) := by
  have hlt : ∀ s', 22 ≤ pos s' → 0 < stage s' := fun s' _ => stage_pos s'
  cases s with
  | rs1 h q => exact wait_does m K c false (.rs1 h q) 22 rfl (credit_a _ _) hlt
  | rs2 h j => exact wait_does m K c false (.rs2 h j) 22 rfl (credit_a _ _) hlt
  | ag1 h j => exact wait_does m K c false (.ag1 h j) 22 rfl (credit_a _ _) hlt
  | ag2a h => exact wait_does m K c false (.ag2a h) 22 rfl (credit_a _ _) hlt
  | ag2b h j => exact wait_does m K c false (.ag2b h j) 22 rfl (credit_o _ _) hlt

/-! ## The copies of the argument's chunks -/

/-- The share of the argument lent to the copies into stage slot `b`. -/
def side (b : Fin 2) : PosShare TreeShare := if b = 0 then fullShare.left else fullShare.right

def tPt (b : Fin 2) (c : Dev nD) (f : (Sh3 2 512).Idx → F .f32) : sProp 𝕄 := (tS b).view.loc (c : Thread nD τ) ↦[(tS b).view.set]{fullShare} f

/-- Stage slot `b` is free, and a share of the whole argument. -/
def Free (b : Fin 2) (c : Dev nD) : sProp 𝕄 :=
  iprop((xM.view.loc (c : Thread nD τ) ↦[Finset.univ]{side b} X m c) ∗ (∃ f, tPt (F := F) b c f) ∗ semVal ((c : Thread nD τ), .dma (copySem b)) 0)

/-- A chunk is on its way into stage slot `b`. -/
def Fly (b : Fin 2) {a : ℕ} (h : Fits 16384 512 a) (c : Dev nD) : sProp 𝕄 :=
  iprop(∃ fd : (Sh3 2 512).Idx → F .f32,
    Flight (EC (F := F)) (c : Thread nD τ) (.dma (copySem b)) () ((tS b).view.amount (.dma (copySem b)))
      iprop(tPt b c ((tS b).view.write (Elt F) fd ((xW h).view.read (Elt F) (X m c)) Finset.univ)
        ∗ ((xW h).view.loc (c : Thread nD τ) ↦[(xW h).view.set]{side b} X m c))
    ∗ (xM.view.loc (c : Thread nD τ) ↦[Finset.univ \ (xW h).view.set]{side b} X m c))

theorem start_does (b : Fin 2) {a : ℕ} (h : Fits 16384 512 a) : Does m K c (Free m b c) (startP b h) (Fly m b h c) := by
  intro Q
  unfold Free Fly tPt
  iintro ⟨#Hc, Hx, ⟨%fd, Ht⟩, Hs⟩ Hk
  ihave Hx := (show (xM.view.loc (c : Thread nD τ) ↦[Finset.univ]{side b} X m c : sProp 𝕄)
      ⊢ iprop(((xW h).view.loc (c : Thread nD τ) ↦[(xW h).view.set]{side b} X m c) ∗ (xM.view.loc (c : Thread nD τ) ↦[Finset.univ \ (xW h).view.set]{side b} X m c))
      from (pointsTo_split_subset (Finset.subset_univ _)).1) $$ Hx
  icases Hx with ⟨Hx, Hrest⟩
  unfold startP
  iapply (wp_dmaLocal EC 𝒱₀ (c : Thread nD τ) none () _ rfl (View.dmaCredit_pos _ (pos_shape (by decide))) (Finset.Subset.refl _)) $$ [Hx Ht Hs]
  · isplitl [Hx]; · iexact Hx
    isplitl [Ht]; · iexact Ht
    iexact Hs
  iintro HF
  rw [wp_ret]; imodintro
  iapply Hk
  iexists fd
  isplitl [HF]; · iexact HF
  iexact Hrest

/-- What is stored of a chunk is the argument's rows in the narrower format. -/
theorem taken (b : Fin 2) {a : ℕ} (h : Fits 16384 512 a) (fd : (Sh3 2 512).Idx → F .f32) (j : (Sh 512).Idx) :
    narrow ((tM.access (slab b fits_stage)).read (Elt F) ((tS b).view.write (Elt F) fd ((xW h).view.read (Elt F) (X m c)) Finset.univ) (lift j))
      = A0 m c ((aW h).view.emb j) := by
  have e : (slab b fits_stage).emb (lift j) = (tS b).view.emb j := by rw [tS_emb, slab_emb]; rfl
  show narrow ((tS b).view.write (Elt F) fd ((xW h).view.read (Elt F) (X m c)) Finset.univ ((slab b fits_stage).emb (lift j))) = narrow (X m c ((xW h).view.emb j))
  rw [e]
  exact congrArg narrow (View.write_emb_of_mem _ _ (Finset.mem_univ _))

theorem take_does (b : Fin 2) {a : ℕ} (h : Fits 16384 512 a) (k : ℕ) :
    Does m K c iprop(Owe c k ∗ Fly m b h c ∗ ∃ f, aPt (F := F) h c fullShare f) (takeP b h h)
      iprop(Owe c k ∗ Free m b c ∗ aPt h c fullShare (A0 m c)) := by
  intro Q
  unfold Owe Fly Free
  iintro ⟨#Hc, ⟨%W, HO⟩, ⟨%fd, HF, Hrest⟩, ⟨%fa, Ha⟩⟩ Hk
  unfold takeP
  iapply (wp_waitLocalO EC 𝒱₀ (c : Thread nD τ) none () rfl) $$ [HF HO]
  · isplitl [HF]; · iexact HF
    isplitl [HO]; · iexact HO
    iapply (mayWait_local c (.dma (copySem b)) (by revert b; decide +kernel) k)
    iapply (Ctx_lev m K); iexact Hc
  iintro ⟨⟨Ht, Hx⟩, Hs, HO⟩
  unfold tPt aPt
  iapply (wp_load_rect 𝒱₀ (c : Thread nD τ) none Set.univ (S := (tS b).view.set)
    (by rw [tS_set]; exact subset_of_eq ((View.set_slice_whole _ _).trans (slab_set b fits_stage)))) $$ Ht
  iintro Ht
  iapply (wp_load_rect 𝒱₀ (c : Thread nD τ) none Set.univ (S := (aW h).view.set) (Finset.Subset.refl _)) $$ Ha
  iintro Ha
  iapply (wp_store 𝒱₀ (c : Thread nD τ) none Set.univ (S := (aW h).view.set) (Finset.Subset.refl _)) $$ Ha
  iintro Ha
  rw [wp_ret]; imodintro
  iapply Hk
  isplitl [HO]; · iexists _; iexact HO
  isplitr [Ha]
  · isplitl [Hx Hrest]
    · iapply (show iprop(((xW h).view.loc (c : Thread nD τ) ↦[(xW h).view.set]{side b} X m c) ∗ (xM.view.loc (c : Thread nD τ) ↦[Finset.univ \ (xW h).view.set]{side b} X m c))
        ⊢ (xM.view.loc (c : Thread nD τ) ↦[Finset.univ]{side b} X m c : sProp 𝕄) from (pointsTo_split_subset (Finset.subset_univ _)).2)
      isplitl [Hx]; · iexact Hx
      iexact Hrest
    isplitl [Ht]; · iexists _; iexact Ht
    iexact Hs
  iapply (Entails.of_eq (landed_as (c := (c : Thread nD τ)) (aW h).view fullShare fa (A0 m c) _ ?_)); rotate_left
  · iexact Ha
  intro j
  refine (View.write_emb_of_mem _ _ (Finset.mem_univ _)).trans ?_
  exact (pay1_apply _ j).trans (taken m c b h fd j)

/-! ## The additions -/

theorem add_does {N a r : ℕ} (mm : Memref sig .tc .vmem (Sh3 2 N) .bf16) (b : Fin 2) (h : Fits 16384 1024 a) (hr : Fits N 1024 r)
    {S : Finset (Idx ((mm.access (slab b hr)).loc (c : Thread nD τ)))} (fa fa' : Big F) (g : Buf (Elt F) ((mm.access (slab b hr)).loc (c : Thread nD τ)))
    (hS : (mm.access (slab b hr)).set ⊆ S)
    (hv : ∀ j, plus (fa ((aW h).view.emb j)) ((mm.access (slab b hr)).read (Elt F) g (lift j)) = fa' ((aW h).view.emb j)) :
    Does m K c iprop(aPt h c fullShare fa ∗ ((mm.access (slab b hr)).loc (c : Thread nD τ) ↦[S]{fullShare} g)) (addP mm b h hr)
      iprop(aPt h c fullShare fa' ∗ ((mm.access (slab b hr)).loc (c : Thread nD τ) ↦[S]{fullShare} g)) := by
  intro Q
  unfold aPt
  iintro ⟨#Hc, Ha, Hg⟩ Hk
  unfold addP
  iapply (wp_load_rect 𝒱₀ (c : Thread nD τ) none Set.univ (S := (aW h).view.set) (Finset.Subset.refl _)) $$ Ha
  iintro Ha
  iapply (wp_load_rect 𝒱₀ (c : Thread nD τ) none Set.univ (S := S) hS) $$ Hg
  iintro Hg
  iapply (wp_load_rect 𝒱₀ (c : Thread nD τ) none Set.univ (S := (aW h).view.set) (Finset.Subset.refl _)) $$ Ha
  iintro Ha
  iapply (wp_store 𝒱₀ (c : Thread nD τ) none Set.univ (S := (aW h).view.set) (Finset.Subset.refl _)) $$ Ha
  iintro Ha
  rw [wp_ret]; imodintro
  iapply Hk
  isplitr [Hg]
  · iapply (Entails.of_eq (landed_as (c := (c : Thread nD τ)) (aW h).view fullShare fa fa' _ ?_)); rotate_left
    · iexact Ha
    intro j
    exact (View.write_emb_of_mem _ _ (Finset.mem_univ _)).trans ((pay35_apply _ _ j).trans (hv j))
  iexact Hg

theorem slab_access {N r : ℕ} (b : Fin 2) (hr : Fits N 1024 r) (j : (Sh 1024).Idx) :
    (slab b hr).emb (lift j) = at3 b (r + ro j) (in_window hr j) (co j) := by rw [slab_emb]; rfl

theorem add1_does (h : Fin 2) (q : Fin 4) : Does m K c iprop(aPt (fits_add1 h q c) c fullShare (A0 m c) ∗ Got m (.rs1 h q) c)
    (addP b1M h (fits_add1 h q c) (fits_rel1 h q c)) iprop(aPt (fits_add1 h q c) c fullShare (A1 m c) ∗ Got m (.rs1 h q) c) := by
  refine add_does m K c b1M h (fits_add1 h q c) (fits_rel1 h q c) (S := (b1S h (fits_rel1 h q c)).view.set) (A0 m c) (A1 m c) (B1 m c)
    (by rw [b1S_set]; exact subset_of_eq ((View.set_slice_whole _ _).trans (slab_set h _))) fun j => ?_
  show plus _ (B1 m c ((slab h (fits_rel1 h q c)).emb (lift j))) = _
  rw [slab_access, aW_emb, B1_at m c h _ _ _ (by have := in_window (fits_add1 h q c) j; unfold add1 at this; omega)]
  have e : half (ro (at2 (N := 16384) (add1 h q c + ro j) (in_window (fits_add1 h q c) j) (co j))) = h := half_add1 h q c (ro_lt j)
  unfold A1; rw [e]
  exact congrArg _ (congrArg _ (at2_congr (by unfold add1; omega)))

theorem add2_does (h i : Fin 2) : Does m K c iprop(aPt (fits_keep2 h i c) c fullShare (A1 m c) ∗ Got m (.rs2 h i) c)
    (addP b2M h (fits_keep2 h i c) (fits_block i)) iprop(aPt (fits_keep2 h i c) c fullShare (A2 m c) ∗ Got m (.rs2 h i) c) := by
  refine add_does m K c b2M h (fits_keep2 h i c) (fits_block i) (S := (b2S h (fits_block i)).view.set) (A1 m c) (A2 m c) (B2 m c)
    (by rw [b2S_set]; exact subset_of_eq ((View.set_slice_whole _ _).trans (slab_set h _))) fun j => ?_
  show plus _ (B2 m c ((slab h (fits_block i)).emb (lift j))) = _
  rw [slab_access, aW_emb, B2_at m c h _ _ _ (by have := in_window (fits_keep2 h i c) j; omega)]
  have e : half (ro (at2 (N := 16384) (keep2 h c + 1024 * i.val + ro j) (in_window (fits_keep2 h i c) j) (co j))) = h := by
    show half (keep2 h c + 1024 * i.val + ro j) = h
    rw [Nat.add_assoc]; exact half_keep2 h c (by have := ro_lt j; have := i.isLt; omega)
  unfold A2; rw [e]
  exact congrArg _ (congrArg _ (at2_congr (by omega)))

/-! ## The copies of a device's own pieces -/

/-- A finished piece is on its way into the result. -/
def OwnFly (h : Fin 2) (c : Dev nD) : sProp 𝕄 :=
  iprop(∃ fd : Big F, Flight (EC (F := F)) (c : Thread nD τ) (.dma (ownSem h)) () ((oW (fits_keep2' h c)).view.amount (.dma (ownSem h)))
    iprop(oPt (fits_keep2' h c) c ((oW (fits_keep2' h c)).view.write (Elt F) fd ((aW (fits_keep2' h c)).view.read (Elt F) (A2 m c)) Finset.univ)
      ∗ aPt (fits_keep2' h c) c fullShare.right.right (A2 m c)))

theorem own_does (h : Fin 2) : Does m K c
    iprop(aPt (fits_keep2' h c) c fullShare.right.right (A2 m c) ∗ (∃ f, oPt (F := F) (fits_keep2' h c) c f) ∗ semVal ((c : Thread nD τ), .dma (ownSem h)) 0)
    (ownP h c) (OwnFly m h c) := by
  intro Q
  unfold OwnFly oPt aPt
  iintro ⟨#Hc, Ha, ⟨%fd, Ho⟩, Hs⟩ Hk
  unfold ownP
  iapply (wp_dmaLocal EC 𝒱₀ (c : Thread nD τ) none () _ rfl (View.dmaCredit_pos _ (pos_shape (by decide))) (Finset.Subset.refl _)) $$ [Ha Ho Hs]
  · isplitl [Ha]; · iexact Ha
    isplitl [Ho]; · iexact Ho
    iexact Hs
  iintro HF
  rw [wp_ret]; imodintro
  iapply Hk
  iexists fd
  iexact HF

theorem owned_does (h : Fin 2) (k : ℕ) : Does m K c iprop(Owe c k ∗ OwnFly m h c) (ownedP h c)
    iprop(Owe c k ∗ aPt (fits_keep2' h c) c fullShare.right.right (A2 m c) ∗ oPt (fits_keep2' h c) c (OUT m) ∗ semVal ((c : Thread nD τ), .dma (ownSem h)) 0) := by
  intro Q
  unfold OwnFly Owe
  iintro ⟨#Hc, ⟨%W, HO⟩, ⟨%fd, HF⟩⟩ Hk
  unfold ownedP
  iapply (wp_waitLocalO EC 𝒱₀ (c : Thread nD τ) none () rfl) $$ [HF HO]
  · isplitl [HF]; · iexact HF
    isplitl [HO]; · iexact HO
    iapply (mayWait_local c (.dma (ownSem h)) (by revert h; decide +kernel) k)
    iapply (Ctx_lev m K); iexact Hc
  iintro ⟨⟨Ho, Ha⟩, Hs, HO⟩
  rw [wp_ret]; imodintro
  iapply Hk
  isplitl [HO]; · iexists _; iexact HO
  isplitl [Ha]; · iexact Ha
  isplitr [Hs]
  · unfold oPt
    iapply (Entails.of_eq (landed_as (c := (c : Thread nD τ)) (oW (fits_keep2' h c)).view fullShare fd (OUT m) _
      fun j => (View.write_emb_of_mem _ _ (Finset.mem_univ _)).trans (piece_lands m h c 0 (fits_keep2' h c) (Nat.add_zero _).symm (by omega) j)))
    iexact Ho
  iexact Hs

end Cert.SumProof
end
-- ==== Proof.Regions.lean ====
/-
# Buffers cut into windows, and put together again

Each buffer is the union of the windows that the run uses of it, and these are pairwise apart.
-/
module

public import proofs.«01_k».proof.Proof.Steps

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {m : (ℓ : Loc nD τ sig) → Buf (Elt F) ℓ} (c : Dev nD)

/-! ## Two neighbouring windows -/

omit [FloatOps F] in
theorem aPt_append {n n' N a a' : ℕ} (h : Fits 16384 n a) (h' : Fits 16384 n' a') (H : Fits 16384 N a) (e : a' = a + n) (eN : N = n + n')
    (q : PosShare TreeShare) (f : Big F) : aPt H c q f ⊣⊢ iprop(aPt h c q f ∗ aPt h' c q f) := by
  subst eN
  unfold aPt
  have hs : (aW H).view.set = (aW h).view.set ∪ (aW h').view.set := by rw [aW_set, aW_set, aW_set, band_append e]
  have hd : Disjoint (aW h).view.set (aW h').view.set := by rw [aW_set, aW_set]; exact band_join_disj e
  rw [hs]
  exact pointsTo_union hd

omit [FloatOps F] in
theorem aPt_share {n a : ℕ} (h : Fits 16384 n a) (q : PosShare TreeShare) (f : Big F) : aPt h c q f ⊣⊢ iprop(aPt h c q.left f ∗ aPt h c q.right f) := by
  unfold aPt
  exact pointsTo_share (PosShare.mem_left_op_right q)

/-! ## Families of blocks of rows, in units of 512 -/

/-- The blocks of rows `a k` to `a k + n k` are apart and make up the rows below `N`. -/
structure Tiles {ι : Type} (N : ℕ) (n a : ι → ℕ) : Prop where
  apart : ∀ k k', k ≠ k' → a k + n k ≤ a k' ∨ a k' + n k' ≤ a k
  cover : ∀ t < N / 512, ∃ k, a k ≤ 512 * t ∧ 512 * t + 512 ≤ a k + n k

theorem Tiles.union {ι : Type} [Fintype ι] [DecidableEq ι] {n a : ι → ℕ} (h : Tiles 16384 n a) : (Finset.univ.biUnion fun k => band 16384 (n k) (a k)) = Finset.univ := by
  ext i
  simp only [Finset.mem_biUnion, Finset.mem_univ, true_and, iff_true]
  have hi := ro_lt i
  obtain ⟨k, h1, h2⟩ := h.cover (ro i / 512) (by omega)
  exact ⟨k, mem_band.mpr (by omega)⟩

theorem Tiles.disjoint {ι : Type} [DecidableEq ι] {N : ℕ} {n a : ι → ℕ} (h : Tiles N n a) (k k' : ι) (hk : k ≠ k') : Disjoint (band N (n k) (a k)) (band N (n k') (a k')) :=
  band_disj (h.apart k k' hk)

omit [FloatOps F] in
/-- A buffer of 16384 rows held whole is its blocks held. -/
theorem a_tiles {ι : Type} [Fintype ι] [DecidableEq ι] {n a : ι → ℕ} (h : Tiles 16384 n a) (hf : ∀ k, Fits 16384 (n k) (a k)) (q : PosShare TreeShare) (f : Big F) :
    (aM.view.loc (c : Thread nD τ) ↦[Finset.univ]{q} f : sProp 𝕄) = bigSep Finset.univ fun k => aPt (hf k) c q f := by
  rw [← h.union]
  refine (pointsTo_biUnion Finset.univ _ fun k _ k' _ hk => h.disjoint k k' hk).trans (bigSep_congr fun k _ => ?_)
  unfold aPt; rw [aW_set]
omit [FloatOps F] in
theorem o_tiles {ι : Type} [Fintype ι] [DecidableEq ι] {n a : ι → ℕ} (h : Tiles 16384 n a) (hf : ∀ k, Fits 16384 (n k) (a k)) (f : Big F) :
    (oM.view.loc (c : Thread nD τ) ↦[Finset.univ]{fullShare} f : sProp 𝕄) = bigSep Finset.univ fun k => oPt (hf k) c f := by
  rw [← h.union]
  refine (pointsTo_biUnion Finset.univ _ fun k _ k' _ hk => h.disjoint k k' hk).trans (bigSep_congr fun k _ => ?_)
  unfold oPt; rw [oW_set]

omit [FloatOps F] in
/-- Blocks held with any contents are the buffer held with some. -/
theorem a_tiles_any {ι : Type} [Fintype ι] [DecidableEq ι] {n a : ι → ℕ} (h : Tiles 16384 n a) (hf : ∀ k, Fits 16384 (n k) (a k)) (fs : ι → Big F) (f₀ : Big F) :
    (bigSep Finset.univ fun k => aPt (hf k) c fullShare (fs k) : sProp 𝕄) ⊢ iprop(∃ f : Big F, aM.view.loc (c : Thread nD τ) ↦[Finset.univ]{fullShare} f) := by
  have e : (bigSep Finset.univ fun k => aPt (hf k) c fullShare (fs k) : sProp 𝕄)
      = bigSep Finset.univ fun k => aM.view.loc (c : Thread nD τ) ↦[band 16384 (n k) (a k)]{fullShare} fs k := bigSep_congr fun k _ => by unfold aPt; rw [aW_set]
  rw [e]
  have j := pointsTo_biUnion_join (ℓ := aM.view.loc (c : Thread nD τ)) (q := fullShare) (Ix := Unit) (Name := ℕ) (U := UU) (Lvl := ℕ) (Val := Elt F) Finset.univ (fun k => band 16384 (n k) (a k)) fs f₀
    fun k _ k' _ hk => h.disjoint k k' hk
  rw [h.union] at j
  refine j.trans ?_
  iintro ⟨%g, -, H⟩
  iexists g; iexact H

/-! ## The kept quarters, by chunks and by blocks -/

theorem row_feed0 : ∀ (q : Fin 4) c, row ⟨4 * q.val, by omega⟩ c = src1 0 q c := by decide +kernel
theorem row_feed1 : ∀ (q : Fin 4) c, row ⟨4 * q.val + 1, by omega⟩ c = src1 1 q c := by decide +kernel
theorem row_feed2 : ∀ (q : Fin 4) c, row ⟨4 * q.val + 2, by omega⟩ c = src1 0 q c + 512 := by decide +kernel
theorem row_feed3 : ∀ (q : Fin 4) c, row ⟨4 * q.val + 3, by omega⟩ c = src1 1 q c + 512 := by decide +kernel

theorem in_units {a n r : ℕ} (ha : a % 512 = 0) (hn : n % 512 = 0) : a ≤ r ∧ r < a + n ↔ a / 512 ≤ r / 512 ∧ r / 512 < (a + n) / 512 := by omega

theorem row_units : ∀ j c, row j c % 512 = 0 := by decide +kernel
theorem add1_units : ∀ h q c, add1 h q c % 512 = 0 := by decide +kernel
theorem row_apart : ∀ c j j', j ≠ j' → row j c + 512 ≤ row j' c ∨ row j' c + 512 ≤ row j c := by decide +kernel
theorem add1_apart : ∀ c (p p' : Fin 2 × Fin 4), p ≠ p' → add1 p.1 p.2 c + 1024 ≤ add1 p'.1 p'.2 c ∨ add1 p'.1 p'.2 c + 1024 ≤ add1 p.1 p.2 c := by decide +kernel
theorem kept_units : ∀ c (t : Fin 32), (∃ j : Fin 32, 16 ≤ j.val ∧ row j c / 512 ≤ t.val ∧ t.val < (row j c + 512) / 512)
    ↔ ∃ p : Fin 2 × Fin 4, add1 p.1 p.2 c / 512 ≤ t.val ∧ t.val < (add1 p.1 p.2 c + 1024) / 512 := by decide +kernel

theorem kept_rows : ((Finset.univ.filter fun j : Fin 32 => 16 ≤ j.val).biUnion fun j => band 16384 512 (row j c))
    = Finset.univ.biUnion fun p : Fin 2 × Fin 4 => band 16384 1024 (add1 p.1 p.2 c) := by
  ext i
  have hi := ro_lt i
  simp only [Finset.mem_biUnion, Finset.mem_filter, Finset.mem_univ, true_and, mem_band,
    in_units (row_units _ c) (by decide : 512 % 512 = 0), in_units (add1_units _ _ c) (by decide : 1024 % 512 = 0)]
  exact kept_units c ⟨ro i / 512, by omega⟩

omit [FloatOps F] in
/-- The kept chunks are the blocks the partners' blocks are added to. -/
theorem kept_blocks (f : Big F) : (bigSep (Finset.univ.filter fun j : Fin 32 => 16 ≤ j.val) fun j => aPt (fits_row j c) c fullShare f : sProp 𝕄)
    = bigSep Finset.univ fun p : Fin 2 × Fin 4 => aPt (fits_add1 p.1 p.2 c) c fullShare f := by
  have e : (bigSep (Finset.univ.filter fun j : Fin 32 => 16 ≤ j.val) fun j => aPt (fits_row j c) c fullShare f : sProp 𝕄)
      = bigSep (Finset.univ.filter fun j : Fin 32 => 16 ≤ j.val) fun j => aM.view.loc (c : Thread nD τ) ↦[band 16384 512 (row j c)]{fullShare} f :=
    bigSep_congr fun k _ => by unfold aPt; rw [aW_set]
  have e' : (bigSep Finset.univ fun p : Fin 2 × Fin 4 => aPt (fits_add1 p.1 p.2 c) c fullShare f : sProp 𝕄)
      = bigSep Finset.univ fun p : Fin 2 × Fin 4 => aM.view.loc (c : Thread nD τ) ↦[band 16384 1024 (add1 p.1 p.2 c)]{fullShare} f :=
    bigSep_congr fun k _ => by unfold aPt; rw [aW_set]
  rw [e, e', ← pointsTo_biUnion _ _ (fun j _ j' _ hj => band_disj (row_apart c j j' hj)), kept_rows,
    pointsTo_biUnion _ _ (fun p _ p' _ hp => band_disj (add1_apart c p p' hp))]

end Cert.SumProof
end
-- ==== Proof.Body.lean ====
/-
# One device's whole run

The pieces put in sequence: from what a device holds at the start to what it holds at the end.
-/
module

public import proofs.«01_k».proof.Proof.Regions

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable {m : (ℓ : Loc nD τ sig) → Buf (Elt F) ℓ} {K : Dev nD × CellName → ℕ} {c : Dev nD}

/-- A piece at the head of a sequence. -/
theorem Does.step {A B : sProp 𝕄} {p q : P (F := F)} (h : Does m K c A p B) (Q : PUnit → sProp 𝕄) :
    iprop(Ctx m K ∗ A) ⊢ iprop((B -∗ WP c q Q) -∗ WP c (p >>= fun _ => q) Q) := by
  rw [WP, WP, wp_bind]
  exact h fun _ => WP c q Q

/-! ## Progress along an order of the blocks -/

omit [FloatOps F] in
/-- Of the blocks in the order `f`, those before the `k`-th have come to `Ψ` and the others are at `Φ`. -/
def Line (f : Send → ℕ) (Φ Ψ : Send → sProp 𝕄) (k : ℕ) : sProp 𝕄 := iprop(bigSep (todo f k) Φ ∗ bigSep (gone f k) Ψ)

omit [FloatOps F] in
theorem Line.start (f : Send → ℕ) (Φ Ψ : Send → sProp 𝕄) : bigSep Finset.univ Φ ⊢ Line f Φ Ψ 0 := by
  unfold Line
  rw [todo_zero, gone_zero, bigSep_empty]
  iintro H; isplitl; · iexact H
  iempintro

omit [FloatOps F] in
theorem Line.finish {f : Send → ℕ} (h : ∀ s, f s < 22) (Φ Ψ : Send → sProp 𝕄) : Line f Φ Ψ 22 ⊢ bigSep Finset.univ Ψ := by
  unfold Line
  rw [gone_last h]
  exact sep_elim_right

omit [FloatOps F] in
theorem Line.next {f : Send → ℕ} (hf : ∀ s s', f s = f s' → s = s') {s : Send} {k : ℕ} (e : f s = k) (Φ Ψ : Send → sProp 𝕄) :
    Line f Φ Ψ k ⊢ iprop(Φ s ∗ (Ψ s -∗ Line f Φ Ψ (k + 1))) := by
  unfold Line
  rw [todo_next hf e, gone_next hf e, bigSep_insert (not_mem_todo e), bigSep_insert (not_mem_gone e)]
  show iprop((Φ s ∗ bigSep (todo f (k + 1)) Φ) ∗ bigSep (gone f k) Ψ) ⊢ iprop(Φ s ∗ (Ψ s -∗ bigSep (todo f (k + 1)) Φ ∗ (Ψ s ∗ bigSep (gone f k) Ψ)))
  iintro ⟨⟨H, Ht⟩, Hg⟩
  isplitl [H]; · iexact H
  iintro H
  isplitl [Ht]; · iexact Ht
  isplitl [H]; · iexact H
  iexact Hg

/-- Before and after a block is sent, before and after its peer's block comes, and after it is seen to have left. -/
def Ready (s : Send) (c : Dev nD) : sProp 𝕄 := iprop(Go (F := F) s c ∗ atPos (ER (F := F)) (sendCell s c) 0 ∅ 0)
def Away (s : Send) (c : Dev nD) : sProp 𝕄 := iprop(cred (tallyAt (sendCell s c) () (amt s)) ∗ atPos (ER (F := F)) (sendCell s c) 0 ∅ 0)
def Due (s : Send) (c : Dev nD) : sProp 𝕄 := iprop(cred (tallyAt (recvCell s c) () (amt s)) ∗ atPos (ER (F := F)) (recvCell s c) 0 ∅ 0)
variable (m) in
def Back (s : Send) (c : Dev nD) : sProp 𝕄 := match s with
  | .ag1 _ _ => iprop(emp)
  | s => Got m s c
variable (m) in
def Come (s : Send) (c : Dev nD) : sProp 𝕄 := iprop(atPos (ER (F := F)) (recvCell s c) 1 ∅ 0 ∗ Back m s c)
variable (m) in
def Left (s : Send) (c : Dev nD) : sProp 𝕄 := iprop(atPos (ER (F := F)) (sendCell s c) 1 ∅ 0 ∗ Src m s c)

abbrev Outs (c : Dev nD) (k : ℕ) : sProp 𝕄 := Line (F := F) pos (Ready · c) (Away · c) k
variable (m) in
abbrev Ins (c : Dev nD) (r : ℕ) : sProp 𝕄 := Line (F := F) rpos (Due · c) (Come m · c) r
variable (m) in
abbrev Outgone (c : Dev nD) (d : ℕ) : sProp 𝕄 := Line (F := F) dpos (Away · c) (Left m · c) d

variable (m K c)

theorem send_line (s : Send) {k : ℕ} (e : pos s = k) :
    Does m K c iprop(Owe c k ∗ Outs c k ∗ Src m s c) (sendP s c) iprop(Owe c (k + 1) ∗ Outs c (k + 1)) := by
  subst e
  intro Q
  iintro ⟨#Hc, HO, Hl, Hs⟩ Hk
  ihave Hl := (show Outs c (pos s) ⊢ iprop((Go (F := F) s c ∗ atPos (ER (F := F)) (sendCell s c) 0 ∅ 0) ∗ (Away s c -∗ Outs c (pos s + 1)))
    from Line.next pos_inj (s := s) rfl (Ready · c) (Away · c)) $$ Hl
  icases Hl with ⟨⟨Hgo, Hat⟩, Hl⟩
  iapply (send_does m K c s Q) $$ [HO Hgo Hs]
  · isplitr; · iexact Hc
    isplitl [HO]; · iexact HO
    isplitl [Hgo]; · iexact Hgo
    iexact Hs
  iintro ⟨HO, Hcr⟩
  iapply Hk
  isplitl [HO]; · iexact HO
  iapply Hl
  unfold Away
  isplitl [Hcr]; · iexact Hcr
  iexact Hat

theorem recv_line (s : Send) {r : ℕ} (e : rpos s = r) (k : ℕ) (hlt : ∀ s', k ≤ pos s' → stage s < stage s') :
    Does m K c iprop(Owe c k ∗ Ins m c r) (recvP s c) iprop(Owe c k ∗ Got m s c ∗ (Back m s c -∗ Ins m c (r + 1))) := by
  subst e
  intro Q
  iintro ⟨#Hc, HO, Hl⟩ Hk
  ihave Hl := (show Ins m c (rpos s) ⊢ iprop((cred (tallyAt (recvCell s c) () (amt s)) ∗ atPos (ER (F := F)) (recvCell s c) 0 ∅ 0) ∗ (Come m s c -∗ Ins m c (rpos s + 1)))
    from Line.next rpos_inj (s := s) rfl (Due · c) (Come m · c)) $$ Hl
  icases Hl with ⟨⟨Hcr, Hat⟩, Hl⟩
  iapply (recv_does m K c s k hlt Q) $$ [HO Hcr Hat]
  · isplitr; · iexact Hc
    isplitl [HO]; · iexact HO
    isplitl [Hcr]; · iexact Hcr
    iexact Hat
  iintro ⟨HO, Hat, Hgot⟩
  iapply Hk
  isplitl [HO]; · iexact HO
  isplitl [Hgot]; · iexact Hgot
  iintro Hb
  iapply Hl
  unfold Come
  isplitl [Hat]; · iexact Hat
  iexact Hb

theorem done_line (s : Send) {d : ℕ} (e : dpos s = d) :
    Does m K c iprop(Owe c 22 ∗ Outgone m c d) (doneP s c) iprop(Owe c 22 ∗ Outgone m c (d + 1)) := by
  subst e
  intro Q
  iintro ⟨#Hc, HO, Hl⟩ Hk
  ihave Hl := (show Outgone m c (dpos s) ⊢ iprop((cred (tallyAt (sendCell s c) () (amt s)) ∗ atPos (ER (F := F)) (sendCell s c) 0 ∅ 0) ∗ (Left m s c -∗ Outgone m c (dpos s + 1)))
    from Line.next dpos_inj (s := s) rfl (Away · c) (Left m · c)) $$ Hl
  icases Hl with ⟨⟨Hcr, Hat⟩, Hl⟩
  iapply (done_does m K c s Q) $$ [HO Hcr Hat]
  · isplitr; · iexact Hc
    isplitl [HO]; · iexact HO
    isplitl [Hcr]; · iexact Hcr
    iexact Hat
  iintro ⟨HO, Hat, Hsrc⟩
  iapply Hk
  isplitl [HO]; · iexact HO
  iapply Hl
  unfold Left
  isplitl [Hat]; · iexact Hat
  iexact Hsrc

/-! ## The chunks -/

/-- Chunk `i` is on its way, and the other stage slot is free. -/
def Ch (i : Fin 32) (c : Dev nD) : sProp 𝕄 := iprop(Fly m (Fin.ofNat 2 i.val) (fits_row i c) c ∗ Free m (Fin.ofNat 2 (i.val + 1)) c)
/-- Room in the sum for the chunks from the `n`-th on, and the kept chunks before the `n`-th. -/
def ToTake (n : ℕ) (c : Dev nD) : sProp 𝕄 := bigSep (Finset.univ.filter fun j : Fin 32 => n ≤ j.val) fun j => iprop(∃ f, aPt (F := F) (fits_row j c) c fullShare f)
def Kept (n : ℕ) (c : Dev nD) : sProp 𝕄 := bigSep (Finset.univ.filter fun j : Fin 32 => 16 ≤ j.val ∧ j.val < n) fun j => aPt (fits_row j c) c fullShare (A0 m c)

omit [FloatOps F] in
theorem toTake_next (i : Fin 32) (c : Dev nD) : ToTake (F := F) i.val c ⊢ iprop((∃ f, aPt (F := F) (fits_row i c) c fullShare f) ∗ ToTake (F := F) (i.val + 1) c) := by
  unfold ToTake
  have e : (Finset.univ.filter fun j : Fin 32 => i.val ≤ j.val) = insert i (Finset.univ.filter fun j : Fin 32 => i.val + 1 ≤ j.val) := by
    ext j; simp only [Finset.mem_insert, Finset.mem_filter, Finset.mem_univ, true_and, Fin.ext_iff]; omega
  rw [e, bigSep_insert (by simp)]
  exact Entails.refl _

theorem kept_next (i : Fin 32) (hi : 16 ≤ i.val) (c : Dev nD) : iprop(aPt (fits_row i c) c fullShare (A0 m c) ∗ Kept m i.val c) ⊢ Kept m (i.val + 1) c := by
  unfold Kept
  have e : (Finset.univ.filter fun j : Fin 32 => 16 ≤ j.val ∧ j.val < i.val + 1) = insert i (Finset.univ.filter fun j : Fin 32 => 16 ≤ j.val ∧ j.val < i.val) := by
    ext j; simp only [Finset.mem_insert, Finset.mem_filter, Finset.mem_univ, true_and, Fin.ext_iff]; omega
  rw [e, bigSep_insert (by simp)]
  exact Entails.refl _

theorem chunk_line (i : Fin 31) (k : ℕ) :
    Does m K c iprop(Owe c k ∗ Ch m i.castSucc c ∗ ToTake (F := F) i.val c) (chunkP i c)
      iprop(Owe c k ∗ Ch m i.succ c ∗ ToTake (F := F) (i.val + 1) c ∗ aPt (fits_row i.castSucc c) c fullShare (A0 m c)) := by
  intro Q
  unfold Ch
  iintro ⟨#Hc, HO, ⟨Hf, Hfree⟩, Ht⟩ Hk
  ihave Ht := (show ToTake (F := F) i.val c ⊢ iprop((∃ f, aPt (F := F) (fits_row i.castSucc c) c fullShare f) ∗ ToTake (F := F) (i.val + 1) c)
    from toTake_next i.castSucc c) $$ Ht
  icases Ht with ⟨Ha, Ht⟩
  unfold chunkP
  iapply ((start_does m K c (Fin.ofNat 2 (i.val + 1)) (fits_row i.succ c)).step Q) $$ [Hfree]
  · isplitr; · iexact Hc
    iexact Hfree
  iintro Hf'
  iapply (take_does m K c (Fin.ofNat 2 i.val) (fits_row i.castSucc c) k Q) $$ [HO Hf Ha]
  · isplitr; · iexact Hc
    isplitl [HO]; · iexact HO
    isplitl [Hf]; · iexact Hf
    iexact Ha
  iintro ⟨HO, Hfree, Ha⟩
  iapply Hk
  isplitl [HO]; · iexact HO
  isplitr [Ht Ha]
  · isplitl [Hf']; · iexact Hf'
    have e : Fin.ofNat 2 (i.succ.val + 1) = Fin.ofNat 2 i.val := Fin.ext (by show (i.val + 1 + 1) % 2 = i.val % 2; omega)
    rw [e]
    iexact Hfree
  isplitl [Ht]; · iexact Ht
  iexact Ha

theorem kept_line (i : Fin 31) (hi : 16 ≤ i.val) (k : ℕ) :
    Does m K c iprop(Owe c k ∗ Ch m i.castSucc c ∗ ToTake (F := F) i.val c ∗ Kept m i.val c) (chunkP i c)
      iprop(Owe c k ∗ Ch m i.succ c ∗ ToTake (F := F) (i.val + 1) c ∗ Kept m (i.val + 1) c) := by
  intro Q
  iintro ⟨#Hc, HO, Hch, Ht, Hkept⟩ Hk
  iapply (chunk_line m K c i k Q) $$ [HO Hch Ht]
  · isplitr; · iexact Hc
    isplitl [HO]; · iexact HO
    isplitl [Hch]; · iexact Hch
    iexact Ht
  iintro ⟨HO, Hch, Ht, Ha⟩
  iapply Hk
  isplitl [HO]; · iexact HO
  isplitl [Hch]; · iexact Hch
  isplitl [Ht]; · iexact Ht
  iapply (kept_next m i.castSucc hi c)
  isplitl [Ha]; · iexact Ha
  iexact Hkept

/-- The kept chunks are taken in, and both stage slots are free. -/
theorem keep_does (k : ℕ) :
    Does m K c iprop(Owe c k ∗ Ch m 16 c ∗ ToTake (F := F) 16 c ∗ Kept m 16 c) (keepP c)
      iprop(Owe c k ∗ Free m 0 c ∗ Free m 1 c ∗ Kept m 32 c) := by
  have last : Does m K c iprop(Owe c k ∗ Ch m 31 c ∗ ToTake (F := F) 31 c ∗ Kept m 31 c) (takeP 1 (fits_row 31 c) (fits_row 31 c))
      iprop(Owe c k ∗ Free m 0 c ∗ Free m 1 c ∗ Kept m 32 c) := by
    intro Q
    unfold Ch
    iintro ⟨#Hc, HO, ⟨Hf, Hfree⟩, Ht, Hkept⟩ Hk
    ihave Ht := (show ToTake (F := F) 31 c ⊢ iprop((∃ f, aPt (F := F) (fits_row 31 c) c fullShare f) ∗ ToTake (F := F) 32 c) from toTake_next 31 c) $$ Ht
    icases Ht with ⟨Ha, -⟩
    iapply (take_does m K c 1 (fits_row 31 c) k Q) $$ [HO Hf Ha]
    · isplitr; · iexact Hc
      isplitl [HO]; · iexact HO
      isplitl [Hf]; · iexact Hf
      iexact Ha
    iintro ⟨HO, Hfree', Ha⟩
    iapply Hk
    isplitl [HO]; · iexact HO
    isplitl [Hfree]; · iexact Hfree
    isplitl [Hfree']; · iexact Hfree'
    iapply (kept_next m 31 (by decide) c)
    isplitl [Ha]; · iexact Ha
    iexact Hkept
  have L := fun (i : Fin 31) (hi : 16 ≤ i.val) => kept_line m K c i hi k
  exact (L 16 (by decide)).seq <| (L 17 (by decide)).seq <| (L 18 (by decide)).seq <| (L 19 (by decide)).seq <| (L 20 (by decide)).seq <|
    (L 21 (by decide)).seq <| (L 22 (by decide)).seq <| (L 23 (by decide)).seq <| (L 24 (by decide)).seq <| (L 25 (by decide)).seq <|
    (L 26 (by decide)).seq <| (L 27 (by decide)).seq <| (L 28 (by decide)).seq <| (L 29 (by decide)).seq <| (L 30 (by decide)).seq last

/-- Two chunks are a block to be sent. -/
theorem feed_block0 (q : Fin 4) : iprop(aPt (fits_row ⟨4 * q.val, by omega⟩ c) c fullShare (A0 m c) ∗ aPt (fits_row ⟨4 * q.val + 2, by omega⟩ c) c fullShare (A0 m c))
    ⊢ Src m (.rs1 0 q) c := by
  show _ ⊢ aPt (fits_src1 0 q c) c fullShare (A0 m c)
  rw [← aPt_congr (a := row ⟨4 * q.val, by omega⟩ c) (row_feed0 q c ▸ fits_src1 0 q c) (fits_src1 0 q c) (row_feed0 q c) c]
  exact (aPt_append c _ _ _ (by rw [row_feed2, row_feed0]) rfl fullShare (A0 m c)).2
theorem feed_block1 (q : Fin 4) : iprop(aPt (fits_row ⟨4 * q.val + 1, by omega⟩ c) c fullShare (A0 m c) ∗ aPt (fits_row ⟨4 * q.val + 3, by omega⟩ c) c fullShare (A0 m c))
    ⊢ Src m (.rs1 1 q) c := by
  show _ ⊢ aPt (fits_src1 1 q c) c fullShare (A0 m c)
  rw [← aPt_congr (a := row ⟨4 * q.val + 1, by omega⟩ c) (row_feed1 q c ▸ fits_src1 1 q c) (fits_src1 1 q c) (row_feed1 q c) c]
  exact (aPt_append c _ _ _ (by rw [row_feed3, row_feed1]) rfl fullShare (A0 m c)).2

theorem feed_does (q : Fin 4) :
    Does m K c iprop(Owe c (2 * q.val) ∗ Outs c (2 * q.val) ∗ Ch m ⟨4 * q.val, by omega⟩ c ∗ ToTake (F := F) (4 * q.val) c) (feedP q c)
      iprop(Owe c (2 * q.val + 2) ∗ Outs c (2 * q.val + 2) ∗ Ch m ⟨4 * q.val + 4, by omega⟩ c ∗ ToTake (F := F) (4 * q.val + 4) c) := by
  have h0 : 4 * q.val < 31 := by omega
  have h1 : 4 * q.val + 1 < 31 := by omega
  have h2 : 4 * q.val + 2 < 31 := by omega
  have h3 : 4 * q.val + 3 < 31 := by omega
  intro Q
  iintro ⟨#Hc, HO, Hout, Hch, Ht⟩ Hk
  unfold feedP
  iapply ((chunk_line m K c ⟨4 * q.val, h0⟩ (2 * q.val)).step Q) $$ [HO Hch Ht]
  · isplitr; · iexact Hc
    isplitl [HO]; · iexact HO
    isplitl [Hch]; · iexact Hch
    iexact Ht
  iintro ⟨HO, Hch, Ht, Ha0⟩
  iapply ((chunk_line m K c ⟨4 * q.val + 1, h1⟩ (2 * q.val)).step Q) $$ [HO Hch Ht]
  · isplitr; · iexact Hc
    isplitl [HO]; · iexact HO
    isplitl [Hch]; · iexact Hch
    iexact Ht
  iintro ⟨HO, Hch, Ht, Ha1⟩
  iapply ((chunk_line m K c ⟨4 * q.val + 2, h2⟩ (2 * q.val)).step Q) $$ [HO Hch Ht]
  · isplitr; · iexact Hc
    isplitl [HO]; · iexact HO
    isplitl [Hch]; · iexact Hch
    iexact Ht
  iintro ⟨HO, Hch, Ht, Ha2⟩
  iapply ((send_line m K c (.rs1 0 q) (k := 2 * q.val) rfl).step Q) $$ [HO Hout Ha0 Ha2]
  · isplitr; · iexact Hc
    isplitl [HO]; · iexact HO
    isplitl [Hout]; · iexact Hout
    iapply (feed_block0 m c q)
    isplitl [Ha0]; · iexact Ha0
    iexact Ha2
  iintro ⟨HO, Hout⟩
  iapply ((chunk_line m K c ⟨4 * q.val + 3, h3⟩ (2 * q.val + 1)).step Q) $$ [HO Hch Ht]
  · isplitr; · iexact Hc
    isplitl [HO]; · iexact HO
    isplitl [Hch]; · iexact Hch
    iexact Ht
  iintro ⟨HO, Hch, Ht, Ha3⟩
  iapply (send_line m K c (.rs1 1 q) (k := 2 * q.val + 1) rfl Q) $$ [HO Hout Ha1 Ha3]
  · isplitr; · iexact Hc
    isplitl [HO]; · iexact HO
    isplitl [Hout]; · iexact Hout
    iapply (feed_block1 m c q)
    isplitl [Ha1]; · iexact Ha1
    iexact Ha3
  iintro ⟨HO, Hout⟩
  iapply Hk
  isplitl [HO]; · iexact HO
  isplitl [Hout]; · iexact Hout
  isplitl [Hch]; · iexact Hch
  iexact Ht

/-! ## The sums and the gathers -/

theorem sum1_line (h : Fin 2) (q : Fin 4) {r : ℕ} (e : rpos (.rs1 h q) = r) (k : ℕ) (hlt : ∀ s', k ≤ pos s' → stage (.rs1 h q) < stage s') :
    Does m K c iprop(Owe c k ∗ Ins m c r ∗ aPt (fits_add1 h q c) c fullShare (A0 m c)) (sum1P h q c)
      iprop(Owe c k ∗ Ins m c (r + 1) ∗ aPt (fits_add1 h q c) c fullShare (A1 m c)) := by
  intro Q
  iintro ⟨#Hc, HO, Hin, Ha⟩ Hk
  unfold sum1P
  iapply ((recv_line m K c (.rs1 h q) e k hlt).step Q) $$ [HO Hin]
  · isplitr; · iexact Hc
    isplitl [HO]; · iexact HO
    iexact Hin
  iintro ⟨HO, Hgot, Hin⟩
  iapply (add1_does m K c h q Q) $$ [Ha Hgot]
  · isplitr; · iexact Hc
    isplitl [Ha]; · iexact Ha
    iexact Hgot
  iintro ⟨Ha, Hgot⟩
  iapply Hk
  isplitl [HO]; · iexact HO
  isplitr [Ha]
  · iapply Hin
    iapply (show Got m (.rs1 h q) c ⊢ Back m (.rs1 h q) c from Entails.refl _); iexact Hgot
  iexact Ha

theorem sum2_line (h i : Fin 2) {k r : ℕ} (e : rpos (.rs2 h i) = r) (ek : pos (.ag1 h i) = k) (hlt : ∀ s', k ≤ pos s' → stage (.rs2 h i) < stage s') :
    Does m K c iprop(Owe c k ∗ Outs c k ∗ Ins m c r ∗ aPt (fits_keep2 h i c) c fullShare (A1 m c)) (sum2P h i c)
      iprop(Owe c (k + 1) ∗ Outs c (k + 1) ∗ Ins m c (r + 1) ∗ aPt (fits_keep2 h i c) c fullShare.right (A2 m c)) := by
  intro Q
  iintro ⟨#Hc, HO, Hout, Hin, Ha⟩ Hk
  unfold sum2P
  iapply ((recv_line m K c (.rs2 h i) e k hlt).step Q) $$ [HO Hin]
  · isplitr; · iexact Hc
    isplitl [HO]; · iexact HO
    iexact Hin
  iintro ⟨HO, Hgot, Hin⟩
  iapply ((add2_does m K c h i).step Q) $$ [Ha Hgot]
  · isplitr; · iexact Hc
    isplitl [Ha]; · iexact Ha
    iexact Hgot
  iintro ⟨Ha, Hgot⟩
  ihave Ha := (aPt_share c (fits_keep2 h i c) fullShare (A2 m c)).1 $$ Ha
  icases Ha with ⟨Hl, Hr⟩
  iapply (send_line m K c (.ag1 h i) ek Q) $$ [HO Hout Hl]
  · isplitr; · iexact Hc
    isplitl [HO]; · iexact HO
    isplitl [Hout]; · iexact Hout
    iapply (show aPt (fits_keep2 h i c) c fullShare.left (A2 m c) ⊢ Src m (.ag1 h i) c from Entails.refl _); iexact Hl
  iintro ⟨HO, Hout⟩
  iapply Hk
  isplitl [HO]; · iexact HO
  isplitl [Hout]; · iexact Hout
  isplitr [Hr]
  · iapply Hin
    iapply (show Got m (.rs2 h i) c ⊢ Back m (.rs2 h i) c from Entails.refl _); iexact Hgot
  iexact Hr

/-- The two finished blocks of a half are a piece. -/
theorem piece_blocks (h : Fin 2) (q : PosShare TreeShare) (f : Big F) :
    aPt (fits_keep2' h c) c q f ⊣⊢ iprop(aPt (fits_keep2 h 0 c) c q f ∗ aPt (fits_keep2 h 1 c) c q f) := by
  have e : keep2 h c + 1024 * (0 : Fin 2).val = keep2 h c := Nat.add_zero _
  rw [aPt_congr (fits_keep2 h 0 c) (e ▸ fits_keep2 h 0 c) e c]
  exact aPt_append c (e ▸ fits_keep2 h 0 c) (fits_keep2 h 1 c) (fits_keep2' h c) (congrArg (keep2 h c + ·) (by decide)) (by decide) q f

theorem piece_line (h : Fin 2) {k : ℕ} (e : pos (.ag2a h) = k) :
    Does m K c iprop(Owe c k ∗ Outs c k ∗ (aPt (fits_keep2 h 0 c) c fullShare.right (A2 m c) ∗ aPt (fits_keep2 h 1 c) c fullShare.right (A2 m c))
        ∗ (∃ f, oPt (F := F) (fits_keep2' h c) c f) ∗ semVal ((c : Thread nD τ), .dma (ownSem h)) 0) (pieceP h c)
      iprop(Owe c (k + 1) ∗ Outs c (k + 1) ∗ OwnFly m h c) := by
  intro Q
  iintro ⟨#Hc, HO, Hout, Ha, Ho, Hs⟩ Hk
  unfold pieceP
  ihave Ha := (piece_blocks c h fullShare.right (A2 m c)).2 $$ Ha
  ihave Ha := (aPt_share c (fits_keep2' h c) fullShare.right (A2 m c)).1 $$ Ha
  icases Ha with ⟨Hl, Hr⟩
  iapply ((send_line m K c (.ag2a h) e).step Q) $$ [HO Hout Hl]
  · isplitr; · iexact Hc
    isplitl [HO]; · iexact HO
    isplitl [Hout]; · iexact Hout
    iapply (show aPt (fits_keep2' h c) c fullShare.right.left (A2 m c) ⊢ Src m (.ag2a h) c from Entails.refl _); iexact Hl
  iintro ⟨HO, Hout⟩
  iapply (own_does m K c h Q) $$ [Hr Ho Hs]
  · isplitr; · iexact Hc
    isplitl [Hr]; · iexact Hr
    isplitl [Ho]; · iexact Ho
    iexact Hs
  iintro HF
  iapply Hk
  isplitl [HO]; · iexact HO
  isplitl [Hout]; · iexact Hout
  iexact HF

theorem pass_line (h i : Fin 2) {k r : ℕ} (e : rpos (.ag1 h i) = r) (ek : pos (.ag2b h i) = k) (hlt : ∀ s', k ≤ pos s' → stage (.ag1 h i) < stage s') :
    Does m K c iprop(Owe c k ∗ Outs c k ∗ Ins m c r) (passP h i c) iprop(Owe c (k + 1) ∗ Outs c (k + 1) ∗ Ins m c (r + 1)) := by
  intro Q
  iintro ⟨#Hc, HO, Hout, Hin⟩ Hk
  unfold passP
  iapply ((recv_line m K c (.ag1 h i) e k hlt).step Q) $$ [HO Hin]
  · isplitr; · iexact Hc
    isplitl [HO]; · iexact HO
    iexact Hin
  iintro ⟨HO, Hgot, Hin⟩
  iapply (send_line m K c (.ag2b h i) ek Q) $$ [HO Hout Hgot]
  · isplitr; · iexact Hc
    isplitl [HO]; · iexact HO
    isplitl [Hout]; · iexact Hout
    iapply (show Got m (.ag1 h i) c ⊢ Src m (.ag2b h i) c from Entails.refl _); iexact Hgot
  iintro ⟨HO, Hout⟩
  iapply Hk
  isplitl [HO]; · iexact HO
  isplitl [Hout]; · iexact Hout
  iapply Hin
  unfold Back
  iempintro

theorem take_line (s : Send) (hs : Back m s c = Got m s c) {r : ℕ} (e : rpos s = r) : Does m K c iprop(Owe c 22 ∗ Ins m c r) (recvP s c) iprop(Owe c 22 ∗ Ins m c (r + 1)) := by
  refine Does.conseq (Entails.refl _) ?_ (recv_line m K c s e 22 fun s' h => absurd (pos_lt s') (by omega))
  rw [hs]
  iintro ⟨HO, Hgot, Hin⟩
  isplitl [HO]; · iexact HO
  iapply Hin; iexact Hgot

/-- A device's own piece of the result, copied. -/
def Owned (h : Fin 2) (c : Dev nD) : sProp 𝕄 :=
  iprop(aPt (fits_keep2' h c) c fullShare.right.right (A2 m c) ∗ oPt (fits_keep2' h c) c (OUT m) ∗ semVal ((c : Thread nD τ), .dma (ownSem h)) 0)

theorem land_line (h : Fin 2) {r : ℕ} (e : rpos (.ag2a h) = r) :
    Does m K c iprop((Owe c 22 ∗ Ins m c r) ∗ OwnFly m h c) (landP h c) iprop((Owe c 22 ∗ Ins m c (r + 3)) ∗ Owned m h c) := by
  have e0 : rpos (.ag2b h 0) = r + 1 := by subst e; show 17 + 3 * h.val + 0 = 16 + 3 * h.val + 1; omega
  have e1 : rpos (.ag2b h 1) = r + 2 := by subst e; show 17 + 3 * h.val + 1 = 16 + 3 * h.val + 2; omega
  unfold landP
  refine ((take_line m K c (.ag2a h) rfl e).frame _).seq (((take_line m K c (.ag2b h 0) rfl e0).frame _).seq (((take_line m K c (.ag2b h 1) rfl e1).frame _).seq ?_))
  refine Does.conseq ?_ ?_ ((owned_does m K c h 22).frame (Ins m c (r + 3)))
  · iintro ⟨⟨HO, Hin⟩, HF⟩
    isplitr [Hin]
    · isplitl [HO]; · iexact HO
      iexact HF
    iexact Hin
  · unfold Owned
    iintro ⟨⟨HO, Ha, Ho, Hs⟩, Hin⟩
    isplitl [HO Hin]
    · isplitl [HO]; · iexact HO
      iexact Hin
    isplitl [Ha]; · iexact Ha
    isplitl [Ho]; · iexact Ho
    iexact Hs

theorem leave_does (h : Fin 2) {d : ℕ} (e : d = 11 * h.val) : Does m K c iprop(Owe c 22 ∗ Outgone m c d) (leaveP h c) iprop(Owe c 22 ∗ Outgone m c (d + 11)) := by
  subst e
  unfold leaveP
  have D := fun (s : Send) (x : ℕ) (e : dpos s = 11 * h.val + x) => done_line m K c s e
  exact (D (.rs1 h 0) 0 rfl).seq <| (D (.rs1 h 1) 1 rfl).seq <| (D (.rs1 h 2) 2 rfl).seq <| (D (.rs1 h 3) 3 rfl).seq <|
    (D (.rs2 h 0) 4 rfl).seq <| (D (.ag1 h 0) 5 rfl).seq <| (D (.ag2b h 0) 6 rfl).seq <|
    (D (.rs2 h 1) 7 rfl).seq <| (D (.ag1 h 1) 8 rfl).seq <| (D (.ag2b h 1) 9 rfl).seq (D (.ag2a h) 10 rfl)

/-! ## The whole run -/

theorem sent_block (h j : Fin 2) (q : Fin 4) (e : q = Fin.castAdd 2 j) : aPt (fits_add1 h q c) c fullShare (A1 m c) ⊢ Src m (.rs2 h j) c := by
  show _ ⊢ aPt (fits_send2 h j c) c fullShare (A1 m c)
  rw [aPt_congr (fits_add1 h q c) (fits_send2 h j c) (by rw [e, add1_lo]) c]
theorem kept_block (h j : Fin 2) (q : Fin 4) (e : q = Fin.natAdd 2 j) : aPt (fits_add1 h q c) c fullShare (A1 m c) ⊢ aPt (fits_keep2 h j c) c fullShare (A1 m c) := by
  rw [aPt_congr (fits_add1 h q c) (fits_keep2 h j c) (by rw [e, add1_hi]) c]

omit [FloatOps F] in
theorem by_two (Φ : Fin 2 → sProp 𝕄) : bigSep Finset.univ Φ ⊣⊢ iprop(Φ 0 ∗ Φ 1) := ⟨Entails.of_eq (bigSep_fin_two Φ), Entails.of_eq (bigSep_fin_two Φ).symm⟩
omit [FloatOps F] in
theorem by_four (Φ : Fin 4 → sProp 𝕄) : bigSep Finset.univ Φ ⊢ iprop(Φ 0 ∗ Φ 1 ∗ Φ 2 ∗ Φ 3) := by
  have e : (Finset.univ : Finset (Fin 4)) = insert 0 (insert 1 (insert 2 {3})) := by decide
  rw [e, bigSep_insert (by decide), bigSep_insert (by decide), bigSep_insert (by decide), bigSep_singleton]
  exact Entails.refl _

theorem kept_all : Kept m 32 c ⊢ iprop(
    (aPt (fits_add1 0 0 c) c fullShare (A0 m c) ∗ aPt (fits_add1 0 1 c) c fullShare (A0 m c) ∗ aPt (fits_add1 0 2 c) c fullShare (A0 m c) ∗ aPt (fits_add1 0 3 c) c fullShare (A0 m c))
    ∗ aPt (fits_add1 1 0 c) c fullShare (A0 m c) ∗ aPt (fits_add1 1 1 c) c fullShare (A0 m c) ∗ aPt (fits_add1 1 2 c) c fullShare (A0 m c) ∗ aPt (fits_add1 1 3 c) c fullShare (A0 m c)) := by
  have e : (Finset.univ.filter fun j : Fin 32 => 16 ≤ j.val ∧ j.val < 32) = Finset.univ.filter fun j : Fin 32 => 16 ≤ j.val :=
    Finset.filter_congr fun j _ => by have := j.isLt; omega
  unfold Kept
  rw [e, kept_blocks, bigSep_univ_prod]
  refine (by_two _).1.trans ?_
  exact BI.sep_mono (by_four _) (by_four _)

/-- What a device holds before its run. -/
def Begin (c : Dev nD) : sProp 𝕄 :=
  iprop(((∃ W, owes (c : Thread nD τ) (debt₀ c) W) ∗ dutyTok (ER (F := F)) (barCell (nbrA c)) 0 true ∗ dutyTok (ER (F := F)) (barCell (nbrB c)) 0 false
      ∗ (bigSep Finset.univ fun s => Room (F := F) s c) ∗ cred (tallyAt (barCell c) () 2) ∗ atPos (ER (F := F)) (barCell c) 0 ∅ 0)
    ∗ (bigSep Finset.univ fun s => iprop(dutyTok (ER (F := F)) (sendCell s c) 0 false ∗ dutyTok (ER (F := F)) (recvCell s (peer s c)) 0 false ∗ atPos (ER (F := F)) (sendCell s c) 0 ∅ 0))
    ∗ (bigSep Finset.univ fun s => Due (F := F) s c)
    ∗ Free m 0 c ∗ Free m 1 c ∗ ToTake (F := F) 0 c
    ∗ ((∃ f, oPt (F := F) (fits_keep2' 0 c) c f) ∗ semVal ((c : Thread nD τ), .dma (ownSem 0)) 0)
    ∗ ((∃ f, oPt (F := F) (fits_keep2' 1 c) c f) ∗ semVal ((c : Thread nD τ), .dma (ownSem 1)) 0))

/-- What a device holds after its run. -/
def End (c : Dev nD) : sProp 𝕄 :=
  iprop(Owe c 22 ∗ atPos (ER (F := F)) (barCell c) 1 ∅ 0 ∗ (bigSep Finset.univ fun s => Left m s c) ∗ (bigSep Finset.univ fun s => Come m s c)
    ∗ Free m 0 c ∗ Free m 1 c ∗ Owned m 0 c ∗ Owned m 1 c)

theorem outs_begin : iprop((bigSep Finset.univ fun s => Room (F := F) s (peer s c))
      ∗ bigSep Finset.univ fun s => iprop(dutyTok (ER (F := F)) (sendCell s c) 0 false ∗ dutyTok (ER (F := F)) (recvCell s (peer s c)) 0 false ∗ atPos (ER (F := F)) (sendCell s c) 0 ∅ 0))
    ⊢ Outs c 0 := by
  refine BIBase.Entails.trans ?_ (Line.start pos (Ready · c) (Away · c))
  refine BIBase.Entails.trans (BIBase.Entails.of_eq (bigSep_sep' Finset.univ _ _).symm) (bigSep_mono fun s _ => ?_)
  unfold Ready Go
  show iprop(Room (F := F) s (peer s c) ∗ dutyTok (ER (F := F)) (sendCell s c) 0 false ∗ dutyTok (ER (F := F)) (recvCell s (peer s c)) 0 false ∗ atPos (ER (F := F)) (sendCell s c) 0 ∅ 0) ⊢ _
  iintro ⟨Hr, Ht, Ht', Hat⟩
  isplitr [Hat]
  · isplitl [Ht]; · iexact Ht
    isplitl [Ht']; · iexact Ht'
    iexact Hr
  iexact Hat

theorem prog_does : Does m K c (Begin m c) (prog c) (End m c) := by
  intro Q
  unfold Begin End
  iintro ⟨#Hc, Hmeet, Htok, Hdue, Hf0, Hf1, Ht, ⟨Ho0, Hs0⟩, Ho1, Hs1⟩ Hk
  unfold prog
  iapply ((meet_does m K c).step Q) $$ [Hmeet]
  · isplitr; · iexact Hc
    iexact Hmeet
  iintro ⟨HO, Hbar, Hroom⟩
  ihave Hout := (outs_begin c) $$ [Hroom Htok]
  · isplitl [Hroom]; · iexact Hroom
    iexact Htok
  ihave Hin := (Line.start rpos (Due · c) (Come m · c)) $$ Hdue
  iapply ((start_does m K c 0 (fits_row 0 c)).step Q) $$ [Hf0]
  · isplitr; · iexact Hc
    iexact Hf0
  iintro Hfly
  ihave Hch := (show iprop(Fly m 0 (fits_row 0 c) c ∗ Free m 1 c) ⊢ Ch m ⟨4 * (0 : Fin 4).val, by decide⟩ c from Entails.refl _) $$ [Hfly Hf1]
  · isplitl [Hfly]; · iexact Hfly
    iexact Hf1
  iapply ((feed_does m K c 0).step Q) $$ [HO Hout Hch Ht]
  · isplitr; · iexact Hc
    isplitl [HO]; · iexact HO
    isplitl [Hout]; · iexact Hout
    isplitl [Hch]; · iexact Hch
    iexact Ht
  iintro ⟨HO, Hout, Hch, Ht⟩
  iapply ((feed_does m K c 1).step Q) $$ [HO Hout Hch Ht]
  · isplitr; · iexact Hc
    isplitl [HO]; · iexact HO
    isplitl [Hout]; · iexact Hout
    isplitl [Hch]; · iexact Hch
    iexact Ht
  iintro ⟨HO, Hout, Hch, Ht⟩
  iapply ((feed_does m K c 2).step Q) $$ [HO Hout Hch Ht]
  · isplitr; · iexact Hc
    isplitl [HO]; · iexact HO
    isplitl [Hout]; · iexact Hout
    isplitl [Hch]; · iexact Hch
    iexact Ht
  iintro ⟨HO, Hout, Hch, Ht⟩
  iapply ((feed_does m K c 3).step Q) $$ [HO Hout Hch Ht]
  · isplitr; · iexact Hc
    isplitl [HO]; · iexact HO
    isplitl [Hout]; · iexact Hout
    isplitl [Hch]; · iexact Hch
    iexact Ht
  iintro ⟨HO, Hout, Hch, Ht⟩
  ihave Hkept := (show iprop(emp) ⊢ Kept m 16 c from by unfold Kept; rw [show (Finset.univ.filter fun j : Fin 32 => 16 ≤ j.val ∧ j.val < 16) = ∅ from by decide, bigSep_empty]; exact Entails.refl _) $$ []
  · iempintro
  iapply ((keep_does m K c 8).step Q) $$ [HO Hch Ht Hkept]
  · isplitr; · iexact Hc
    isplitl [HO]; · iexact HO
    isplitl [Hch]; · iexact Hch
    isplitl [Ht]; · iexact Ht
    iexact Hkept
  iintro ⟨HO, Hf0, Hf1, Hkept⟩
  ihave Hkept := (kept_all m c) $$ Hkept
  icases Hkept with ⟨⟨Ha00, Ha01, Ha02, Ha03⟩, Ha10, Ha11, Ha12, Ha13⟩
  iapply ((sum1_line m K c 0 0 (r := 0) rfl 8 (by decide +kernel)).step Q) $$ [HO Hin Ha00]
  · isplitr; · iexact Hc
    isplitl [HO]; · iexact HO
    isplitl [Hin]; · iexact Hin
    iexact Ha00
  iintro ⟨HO, Hin, Ha00⟩
  iapply ((send_line m K c (.rs2 0 0) (k := 8) rfl).step Q) $$ [HO Hout Ha00]
  · isplitr; · iexact Hc
    isplitl [HO]; · iexact HO
    isplitl [Hout]; · iexact Hout
    iapply (sent_block m c 0 0 0 rfl); iexact Ha00
  iintro ⟨HO, Hout⟩
  iapply ((sum1_line m K c 1 0 (r := 1) rfl 9 (by decide +kernel)).step Q) $$ [HO Hin Ha10]
  · isplitr; · iexact Hc
    isplitl [HO]; · iexact HO
    isplitl [Hin]; · iexact Hin
    iexact Ha10
  iintro ⟨HO, Hin, Ha10⟩
  iapply ((send_line m K c (.rs2 1 0) (k := 9) rfl).step Q) $$ [HO Hout Ha10]
  · isplitr; · iexact Hc
    isplitl [HO]; · iexact HO
    isplitl [Hout]; · iexact Hout
    iapply (sent_block m c 1 0 0 rfl); iexact Ha10
  iintro ⟨HO, Hout⟩
  iapply ((sum1_line m K c 0 1 (r := 2) rfl 10 (by decide +kernel)).step Q) $$ [HO Hin Ha01]
  · isplitr; · iexact Hc
    isplitl [HO]; · iexact HO
    isplitl [Hin]; · iexact Hin
    iexact Ha01
  iintro ⟨HO, Hin, Ha01⟩
  iapply ((send_line m K c (.rs2 0 1) (k := 10) rfl).step Q) $$ [HO Hout Ha01]
  · isplitr; · iexact Hc
    isplitl [HO]; · iexact HO
    isplitl [Hout]; · iexact Hout
    iapply (sent_block m c 0 1 1 rfl); iexact Ha01
  iintro ⟨HO, Hout⟩
  iapply ((sum1_line m K c 1 1 (r := 3) rfl 11 (by decide +kernel)).step Q) $$ [HO Hin Ha11]
  · isplitr; · iexact Hc
    isplitl [HO]; · iexact HO
    isplitl [Hin]; · iexact Hin
    iexact Ha11
  iintro ⟨HO, Hin, Ha11⟩
  iapply ((send_line m K c (.rs2 1 1) (k := 11) rfl).step Q) $$ [HO Hout Ha11]
  · isplitr; · iexact Hc
    isplitl [HO]; · iexact HO
    isplitl [Hout]; · iexact Hout
    iapply (sent_block m c 1 1 1 rfl); iexact Ha11
  iintro ⟨HO, Hout⟩
  iapply ((sum1_line m K c 0 2 (r := 4) rfl 12 (by decide +kernel)).step Q) $$ [HO Hin Ha02]
  · isplitr; · iexact Hc
    isplitl [HO]; · iexact HO
    isplitl [Hin]; · iexact Hin
    iexact Ha02
  iintro ⟨HO, Hin, Ha02⟩
  iapply ((sum1_line m K c 1 2 (r := 5) rfl 12 (by decide +kernel)).step Q) $$ [HO Hin Ha12]
  · isplitr; · iexact Hc
    isplitl [HO]; · iexact HO
    isplitl [Hin]; · iexact Hin
    iexact Ha12
  iintro ⟨HO, Hin, Ha12⟩
  iapply ((sum1_line m K c 0 3 (r := 6) rfl 12 (by decide +kernel)).step Q) $$ [HO Hin Ha03]
  · isplitr; · iexact Hc
    isplitl [HO]; · iexact HO
    isplitl [Hin]; · iexact Hin
    iexact Ha03
  iintro ⟨HO, Hin, Ha03⟩
  iapply ((sum1_line m K c 1 3 (r := 7) rfl 12 (by decide +kernel)).step Q) $$ [HO Hin Ha13]
  · isplitr; · iexact Hc
    isplitl [HO]; · iexact HO
    isplitl [Hin]; · iexact Hin
    iexact Ha13
  iintro ⟨HO, Hin, Ha13⟩
  iapply ((sum2_line m K c 0 0 (k := 12) (r := 8) rfl rfl (by decide +kernel)).step Q) $$ [HO Hout Hin Ha02]
  · isplitr; · iexact Hc
    isplitl [HO]; · iexact HO
    isplitl [Hout]; · iexact Hout
    isplitl [Hin]; · iexact Hin
    iapply (kept_block m c 0 0 2 rfl); iexact Ha02
  iintro ⟨HO, Hout, Hin, Ha02⟩
  iapply ((sum2_line m K c 1 0 (k := 13) (r := 9) rfl rfl (by decide +kernel)).step Q) $$ [HO Hout Hin Ha12]
  · isplitr; · iexact Hc
    isplitl [HO]; · iexact HO
    isplitl [Hout]; · iexact Hout
    isplitl [Hin]; · iexact Hin
    iapply (kept_block m c 1 0 2 rfl); iexact Ha12
  iintro ⟨HO, Hout, Hin, Ha12⟩
  iapply ((sum2_line m K c 0 1 (k := 14) (r := 10) rfl rfl (by decide +kernel)).step Q) $$ [HO Hout Hin Ha03]
  · isplitr; · iexact Hc
    isplitl [HO]; · iexact HO
    isplitl [Hout]; · iexact Hout
    isplitl [Hin]; · iexact Hin
    iapply (kept_block m c 0 1 3 rfl); iexact Ha03
  iintro ⟨HO, Hout, Hin, Ha03⟩
  iapply ((piece_line m K c 0 (k := 15) rfl).step Q) $$ [HO Hout Ha02 Ha03 Ho0 Hs0]
  · isplitr; · iexact Hc
    isplitl [HO]; · iexact HO
    isplitl [Hout]; · iexact Hout
    isplitl [Ha02 Ha03]
    · isplitl [Ha02]; · iexact Ha02
      iexact Ha03
    isplitl [Ho0]; · iexact Ho0
    iexact Hs0
  iintro ⟨HO, Hout, Hown0⟩
  iapply ((sum2_line m K c 1 1 (k := 16) (r := 11) rfl rfl (by decide +kernel)).step Q) $$ [HO Hout Hin Ha13]
  · isplitr; · iexact Hc
    isplitl [HO]; · iexact HO
    isplitl [Hout]; · iexact Hout
    isplitl [Hin]; · iexact Hin
    iapply (kept_block m c 1 1 3 rfl); iexact Ha13
  iintro ⟨HO, Hout, Hin, Ha13⟩
  iapply ((piece_line m K c 1 (k := 17) rfl).step Q) $$ [HO Hout Ha12 Ha13 Ho1 Hs1]
  · isplitr; · iexact Hc
    isplitl [HO]; · iexact HO
    isplitl [Hout]; · iexact Hout
    isplitl [Ha12 Ha13]
    · isplitl [Ha12]; · iexact Ha12
      iexact Ha13
    isplitl [Ho1]; · iexact Ho1
    iexact Hs1
  iintro ⟨HO, Hout, Hown1⟩
  iapply ((pass_line m K c 0 0 (k := 18) (r := 12) rfl rfl (by decide +kernel)).step Q) $$ [HO Hout Hin]
  · isplitr; · iexact Hc
    isplitl [HO]; · iexact HO
    isplitl [Hout]; · iexact Hout
    iexact Hin
  iintro ⟨HO, Hout, Hin⟩
  iapply ((pass_line m K c 1 0 (k := 19) (r := 13) rfl rfl (by decide +kernel)).step Q) $$ [HO Hout Hin]
  · isplitr; · iexact Hc
    isplitl [HO]; · iexact HO
    isplitl [Hout]; · iexact Hout
    iexact Hin
  iintro ⟨HO, Hout, Hin⟩
  iapply ((pass_line m K c 0 1 (k := 20) (r := 14) rfl rfl (by decide +kernel)).step Q) $$ [HO Hout Hin]
  · isplitr; · iexact Hc
    isplitl [HO]; · iexact HO
    isplitl [Hout]; · iexact Hout
    iexact Hin
  iintro ⟨HO, Hout, Hin⟩
  iapply ((pass_line m K c 1 1 (k := 21) (r := 15) rfl rfl (by decide +kernel)).step Q) $$ [HO Hout Hin]
  · isplitr; · iexact Hc
    isplitl [HO]; · iexact HO
    isplitl [Hout]; · iexact Hout
    iexact Hin
  iintro ⟨HO, Hout, Hin⟩
  iapply ((land_line m K c 0 (r := 16) rfl).step Q) $$ [HO Hin Hown0]
  · isplitr; · iexact Hc
    isplitr [Hown0]
    · isplitl [HO]; · iexact HO
      iexact Hin
    iexact Hown0
  iintro ⟨⟨HO, Hin⟩, Hown0⟩
  iapply ((land_line m K c 1 (r := 19) rfl).step Q) $$ [HO Hin Hown1]
  · isplitr; · iexact Hc
    isplitr [Hown1]
    · isplitl [HO]; · iexact HO
      iexact Hin
    iexact Hown1
  iintro ⟨⟨HO, Hin⟩, Hown1⟩
  ihave Hgone := (Line.start dpos (Away · c) (Left m · c)) $$ [Hout]
  · iapply (Line.finish pos_lt (Ready · c) (Away · c)); iexact Hout
  iapply ((leave_does m K c 0 (d := 0) rfl).step Q) $$ [HO Hgone]
  · isplitr; · iexact Hc
    isplitl [HO]; · iexact HO
    iexact Hgone
  iintro ⟨HO, Hgone⟩
  iapply (leave_does m K c 1 (d := 11) rfl Q) $$ [HO Hgone]
  · isplitr; · iexact Hc
    isplitl [HO]; · iexact HO
    iexact Hgone
  iintro ⟨HO, Hgone⟩
  iapply Hk
  isplitl [HO]; · iexact HO
  isplitl [Hbar]; · iexact Hbar
  isplitl [Hgone]; · iapply (Line.finish dpos_lt (Away · c) (Left m · c)); iexact Hgone
  isplitl [Hin]; · iapply (Line.finish rpos_lt (Due · c) (Come m · c)); iexact Hin
  isplitl [Hf0]; · iexact Hf0
  isplitl [Hf1]; · iexact Hf1
  isplitl [Hown0]; · iexact Hown0
  iexact Hown1

end Cert.SumProof
end
-- ==== Proof.Ends.lean ====
/-
# A device's buffers before its run and after it

Before the run each buffer is cut into the windows the run uses; after it the windows are put together again.
-/
module

public import proofs.«01_k».proof.Proof.Body

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem to_some {A : Type} (Φ : A → sProp 𝕄) (a : A) : Φ a ⊢ iprop(∃ x, Φ x) := by
  iintro H; iexists a; iexact H

omit [FloatOps F] in
theorem pair_mono {A A' B B' : sProp 𝕄} (h : A ⊢ A') (h' : B ⊢ B') : iprop(A ∗ B) ⊢ iprop(A' ∗ B') := BI.sep_mono h h'
omit [FloatOps F] in
theorem family_mono {ι : Type} [Fintype ι] {Φ Ψ : ι → sProp 𝕄} (h : ∀ i, Φ i ⊢ Ψ i) : bigSep Finset.univ Φ ⊢ bigSep Finset.univ Ψ := bigSep_mono fun i _ => h i

omit [FloatOps F] in
theorem by_sum3 {A B C : Type} [Fintype A] [Fintype B] [Fintype C] (Φ : A ⊕ B ⊕ C → sProp 𝕄) : bigSep Finset.univ Φ
    = iprop((bigSep Finset.univ fun a => Φ (.inl a)) ∗ (bigSep Finset.univ fun b => Φ (.inr (.inl b))) ∗ (bigSep Finset.univ fun b => Φ (.inr (.inr b)))) := by
  rw [bigSep_univ_sum, bigSep_univ_sum]; rfl
omit [FloatOps F] in
theorem by_sum4 {A B C D : Type} [Fintype A] [Fintype B] [Fintype C] [Fintype D] (Φ : A ⊕ B ⊕ C ⊕ D → sProp 𝕄) : bigSep Finset.univ Φ
    = iprop((bigSep Finset.univ fun a => Φ (.inl a)) ∗ (bigSep Finset.univ fun b => Φ (.inr (.inl b))) ∗ (bigSep Finset.univ fun b => Φ (.inr (.inr (.inl b))))
      ∗ (bigSep Finset.univ fun b => Φ (.inr (.inr (.inr b))))) := by
  rw [bigSep_univ_sum, by_sum3]; rfl

/-! ## A buffer and a family of parts -/

section Parts
variable {ι : Type} [Fintype ι] [DecidableEq ι] {ℓ : Loc nD τ sig}

/-- Parts that are pairwise apart and make up a buffer. -/
structure Parts (K : ι → Finset (Idx ℓ)) : Prop where
  apart : ∀ k k', k ≠ k' → Disjoint (K k) (K k')
  all : Finset.univ.biUnion K = Finset.univ

variable {K : ι → Finset (Idx ℓ)}

omit [FloatOps F] in
theorem Parts.cut (h : Parts K) (f : Buf (Elt F) ℓ) : (ℓ ↦{fullShare} f : sProp 𝕄) = bigSep Finset.univ fun k => ℓ ↦[K k]{fullShare} f := by
  have e := pointsTo_biUnion (ℓ := ℓ) (q := fullShare) (f := f) (Ix := Unit) (Name := ℕ) (U := UU) (Lvl := ℕ) (Val := Elt F) Finset.univ K fun k _ k' _ hk => h.apart k k' hk
  rw [h.all] at e
  exact e

omit [FloatOps F] in
theorem Parts.cut_any (h : Parts K) (f : Buf (Elt F) ℓ) : (ℓ ↦{fullShare} f : sProp 𝕄) ⊢ bigSep Finset.univ fun k => iprop(∃ g, ℓ ↦[K k]{fullShare} g) := by
  rw [h.cut f]
  exact family_mono fun k => to_some _ f

omit [FloatOps F] in
theorem Parts.fuse (h : Parts K) (g₀ : Buf (Elt F) ℓ) : (bigSep Finset.univ fun k => iprop(∃ g, ℓ ↦[K k]{fullShare} g) : sProp 𝕄) ⊢ iprop(∃ f : Buf (Elt F) ℓ, ℓ ↦{fullShare} f) := by
  haveI : Nonempty (Buf (Elt F) ℓ) := ⟨g₀⟩
  refine (bigSep_exists_pi (Y := fun _ => Buf (Elt F) ℓ) Finset.univ fun k g => ℓ ↦[K k]{fullShare} g).trans ?_
  iintro ⟨%fs, H⟩
  have j := pointsTo_biUnion_join (ℓ := ℓ) (q := fullShare) (Ix := Unit) (Name := ℕ) (U := UU) (Lvl := ℕ) (Val := Elt F) Finset.univ K fs g₀
    fun k _ k' _ hk => h.apart k k' hk
  rw [h.all] at j
  ihave H := j $$ H
  icases H with ⟨%g, -, H⟩
  iexists g; iexact H
end Parts

/-! ## The four cuts -/

theorem rows_cover : ∀ c, ∀ t < 16384 / 512, ∃ j, row j c ≤ 512 * t ∧ 512 * t + 512 ≤ row j c + 512 := by decide +kernel
theorem row_tiles (c : Dev nD) : Tiles 16384 (fun _ : Fin 32 => 512) (fun j => row j c) := ⟨row_apart c, rows_cover c⟩

/-- The windows of the result: the blocks of the first gather, the piece and the blocks of the second, a device's own piece. -/
abbrev OutIx : Type := (Fin 2 × Fin 2) ⊕ Fin 2 ⊕ (Fin 2 × Fin 2) ⊕ Fin 2
def outLen : OutIx → ℕ
  | .inl _ => 1024
  | .inr (.inl _) => 2048
  | .inr (.inr (.inl _)) => 1024
  | .inr (.inr (.inr _)) => 2048
def outAt (c : Dev nD) : OutIx → ℕ
  | .inl p => send2 p.1 c + 1024 * p.2.val
  | .inr (.inl h) => keep2 h (p1 h c)
  | .inr (.inr (.inl p)) => send2 p.1 (p1 p.1 c) + 1024 * p.2.val
  | .inr (.inr (.inr h)) => keep2 h c
theorem out_apart : ∀ c k k', k ≠ k' → outAt c k + outLen k ≤ outAt c k' ∨ outAt c k' + outLen k' ≤ outAt c k := by decide +kernel
theorem out_cover : ∀ c, ∀ t < 16384 / 512, ∃ k, outAt c k ≤ 512 * t ∧ 512 * t + 512 ≤ outAt c k + outLen k := by decide +kernel
theorem out_tiles (c : Dev nD) : Tiles 16384 outLen (outAt c) := ⟨out_apart c, out_cover c⟩
theorem fits_out : ∀ c k, Fits 16384 (outLen k) (outAt c k) := by decide +kernel

/-- The windows of the sum after the run: the blocks sent in the two exchanges, and the pieces kept. -/
abbrev AccIx : Type := (Fin 2 × Fin 4) ⊕ (Fin 2 × Fin 2) ⊕ Fin 2
def accLen : AccIx → ℕ
  | .inl _ => 1024
  | .inr (.inl _) => 1024
  | .inr (.inr _) => 2048
def accAt (c : Dev nD) : AccIx → ℕ
  | .inl p => src1 p.1 p.2 c
  | .inr (.inl p) => send2 p.1 c + 1024 * p.2.val
  | .inr (.inr h) => keep2 h c
theorem acc_apart : ∀ c k k', k ≠ k' → accAt c k + accLen k ≤ accAt c k' ∨ accAt c k' + accLen k' ≤ accAt c k := by decide +kernel
theorem acc_cover : ∀ c, ∀ t < 16384 / 512, ∃ k, accAt c k ≤ 512 * t ∧ 512 * t + 512 ≤ accAt c k + accLen k := by decide +kernel
theorem acc_tiles (c : Dev nD) : Tiles 16384 accLen (accAt c) := ⟨acc_apart c, acc_cover c⟩
theorem fits_acc : ∀ c k, Fits 16384 (accLen k) (accAt c k) := by decide +kernel

theorem Tiles.parts_a {ι : Type} [Fintype ι] [DecidableEq ι] {n a : ι → ℕ} (h : Tiles 16384 n a) (hf : ∀ k, Fits 16384 (n k) (a k)) (c : Dev nD) :
    Parts (ℓ := aM.view.loc (c : Thread nD τ)) fun k => (aW (hf k)).view.set := by
  have e : (fun k => (aW (hf k)).view.set) = fun k => band 16384 (n k) (a k) := funext fun k => aW_set (hf k)
  constructor
  · intro k k' hk; rw [congrFun e k, congrFun e k']; exact h.disjoint k k' hk
  · rw [e]; exact h.union
theorem Tiles.parts_o {ι : Type} [Fintype ι] [DecidableEq ι] {n a : ι → ℕ} (h : Tiles 16384 n a) (hf : ∀ k, Fits 16384 (n k) (a k)) (c : Dev nD) :
    Parts (ℓ := oM.view.loc (c : Thread nD τ)) fun k => (oW (hf k)).view.set := by
  have e : (fun k => (oW (hf k)).view.set) = fun k => band 16384 (n k) (a k) := funext fun k => oW_set (hf k)
  constructor
  · intro k k' hk; rw [congrFun e k, congrFun e k']; exact h.disjoint k k' hk
  · rw [e]; exact h.union

/-- The blocks of rows `a k` to `a k + n k` of slab `b k` are apart and make up two slabs of `N` rows. -/
structure Tiles3 {ι : Type} (N : ℕ) (b : ι → Fin 2) (n a : ι → ℕ) : Prop where
  apart : ∀ k k', k ≠ k' → b k ≠ b k' ∨ a k + n k ≤ a k' ∨ a k' + n k' ≤ a k
  cover : ∀ s, ∀ t < N / 512, ∃ k, b k = s ∧ a k ≤ 512 * t ∧ 512 * t + 512 ≤ a k + n k

theorem Tiles3.all {ι : Type} [Fintype ι] [DecidableEq ι] {N : ℕ} {b : ι → Fin 2} {n a : ι → ℕ} (h : Tiles3 N b n a) (hN : 512 ∣ N) :
    (Finset.univ.biUnion fun k => band3 N (b k) (n k) (a k)) = Finset.univ := by
  ext i
  simp only [Finset.mem_biUnion, Finset.mem_univ, true_and, iff_true]
  have hi : (i 1).val < N := (i 1).isLt
  obtain ⟨d, rfl⟩ := hN
  obtain ⟨k, h0, h1, h2⟩ := h.cover (i 0) ((i 1).val / 512) (by omega)
  exact ⟨k, mem_band3.mpr ⟨congrArg Fin.val h0.symm, by omega, by omega⟩⟩

theorem t_tiles : Tiles3 512 (fun b : Fin 2 => b) (fun _ => 512) (fun _ => 0) := ⟨by decide +kernel, by decide +kernel⟩
theorem b1_apart : ∀ c (k k' : Fin 2 × Fin 4), k ≠ k' → k.1 ≠ k'.1 ∨ rel1 k.1 k.2 c + 1024 ≤ rel1 k'.1 k'.2 c ∨ rel1 k'.1 k'.2 c + 1024 ≤ rel1 k.1 k.2 c := by decide +kernel
theorem b1_cover : ∀ c (s : Fin 2), ∀ t < 4096 / 512, ∃ k : Fin 2 × Fin 4, k.1 = s ∧ rel1 k.1 k.2 c ≤ 512 * t ∧ 512 * t + 512 ≤ rel1 k.1 k.2 c + 1024 := by decide +kernel
theorem b1_tiles (c : Dev nD) : Tiles3 4096 (fun k : Fin 2 × Fin 4 => k.1) (fun _ => 1024) (fun k => rel1 k.1 k.2 c) := ⟨b1_apart c, b1_cover c⟩
theorem b2_tiles : Tiles3 2048 (fun k : Fin 2 × Fin 2 => k.1) (fun _ => 1024) (fun k => 1024 * k.2.val) := ⟨by decide +kernel, by decide +kernel⟩

theorem b1_parts (c : Dev nD) : Parts (ℓ := b1M.view.loc (c : Thread nD τ)) fun k : Fin 2 × Fin 4 => (b1S k.1 (fits_rel1 k.1 k.2 c)).view.set := by
  have e : (fun k : Fin 2 × Fin 4 => (b1S k.1 (fits_rel1 k.1 k.2 c)).view.set) = fun k => band3 4096 k.1 1024 (rel1 k.1 k.2 c) := funext fun k => b1S_set _ _
  constructor
  · intro k k' hk; rw [congrFun e k, congrFun e k']; exact band3_disj ((b1_tiles c).apart k k' hk)
  · rw [e]; exact (b1_tiles c).all (by decide)
theorem b2_parts (c : Dev nD) : Parts (ℓ := b2M.view.loc (c : Thread nD τ)) fun k : Fin 2 × Fin 2 => (b2S k.1 (fits_block k.2)).view.set := by
  have e : (fun k : Fin 2 × Fin 2 => (b2S k.1 (fits_block k.2)).view.set) = fun k => band3 2048 k.1 1024 (1024 * k.2.val) := funext fun k => b2S_set _ _
  constructor
  · intro k k' hk; rw [congrFun e k, congrFun e k']; exact band3_disj (b2_tiles.apart k k' hk)
  · rw [e]; exact b2_tiles.all (by decide)
theorem t_parts (c : Dev nD) : Parts (ℓ := tM.view.loc (c : Thread nD τ)) fun b : Fin 2 => (tS b).view.set := by
  have e : (fun b : Fin 2 => (tS b).view.set) = fun b => band3 512 b 512 0 := funext fun b => tS_set b
  constructor
  · intro k k' hk; rw [congrFun e k, congrFun e k']; exact band3_disj (t_tiles.apart k k' hk)
  · rw [e]; exact t_tiles.all (by decide)

/-! ## The cuts, in the windows' own names -/

omit [FloatOps F] in
theorem aPt_same {n n' a a' : ℕ} (h : Fits 16384 n a) (h' : Fits 16384 n' a') (en : n = n') (e : a = a') (c : Dev nD) (q) (f : Big F) : aPt h c q f = aPt h' c q f := by
  subst en; subst e; rfl
omit [FloatOps F] in
theorem oPt_same {n n' a a' : ℕ} (h : Fits 16384 n a) (h' : Fits 16384 n' a') (en : n = n') (e : a = a') (c : Dev nD) (f : Big F) : oPt h c f = oPt h' c f := by
  subst en; subst e; rfl

omit [FloatOps F] in
theorem rows_cut (c : Dev nD) (f : Big F) : (aM.view.loc (c : Thread nD τ) ↦{fullShare} f : sProp 𝕄) = bigSep Finset.univ fun j => aPt (fits_row j c) c fullShare f :=
  (((row_tiles c).parts_a (fun j => fits_row j c) c).cut f).trans (bigSep_congr fun j _ => by unfold aPt; rfl)

omit [FloatOps F] in
theorem out_cut (c : Dev nD) (f : Big F) : (oM.view.loc (c : Thread nD τ) ↦{fullShare} f : sProp 𝕄)
    = iprop((bigSep Finset.univ fun p : Fin 2 × Fin 2 => oPt (fits_send2 p.1 p.2 c) c f) ∗ (bigSep Finset.univ fun h : Fin 2 => oPt (fits_keep2' h (p1 h c)) c f)
      ∗ (bigSep Finset.univ fun p : Fin 2 × Fin 2 => oPt (fits_send2 p.1 p.2 (p1 p.1 c)) c f) ∗ (bigSep Finset.univ fun h : Fin 2 => oPt (fits_keep2' h c) c f)) := by
  have e : (oM.view.loc (c : Thread nD τ) ↦{fullShare} f : sProp 𝕄) = bigSep Finset.univ fun k => oPt (fits_out c k) c f :=
    (((out_tiles c).parts_o (fits_out c) c).cut f).trans (bigSep_congr fun k _ => by unfold oPt; rfl)
  rw [e, by_sum4]
  refine congrArg₂ _ (bigSep_congr fun p _ => oPt_same _ _ (by unfold outLen; rfl) (by unfold outAt; rfl) c f) (congrArg₂ _ (bigSep_congr fun p _ => oPt_same _ _ (by unfold outLen; rfl) (by unfold outAt; rfl) c f)
    (congrArg₂ _ (bigSep_congr fun p _ => oPt_same _ _ (by unfold outLen; rfl) (by unfold outAt; rfl) c f) (bigSep_congr fun p _ => oPt_same _ _ (by unfold outLen; rfl) (by unfold outAt; rfl) c f)))

omit [FloatOps F] in
theorem acc_fuse (c : Dev nD) (f₀ : Big F) : iprop((bigSep Finset.univ fun p : Fin 2 × Fin 4 => iprop(∃ f, aPt (F := F) (fits_src1 p.1 p.2 c) c fullShare f))
      ∗ (bigSep Finset.univ fun p : Fin 2 × Fin 2 => iprop(∃ f, aPt (F := F) (fits_send2 p.1 p.2 c) c fullShare f)) ∗ (bigSep Finset.univ fun h : Fin 2 => iprop(∃ f, aPt (F := F) (fits_keep2' h c) c fullShare f)))
    ⊢ iprop(∃ f : Big F, aM.view.loc (c : Thread nD τ) ↦{fullShare} f) := by
  have e : (bigSep Finset.univ fun k => iprop(∃ f, aPt (F := F) (fits_acc c k) c fullShare f)) ⊢ iprop(∃ f : Big F, aM.view.loc (c : Thread nD τ) ↦{fullShare} f) :=
    (Entails.of_eq (bigSep_congr fun k _ => by unfold aPt; rfl)).trans (((acc_tiles c).parts_a (fits_acc c) c).fuse f₀)
  refine BIBase.Entails.trans (Entails.of_eq ?_) e
  rw [by_sum3]
  refine congrArg₂ _ (bigSep_congr fun p _ => congrArg _ (funext fun f => aPt_same _ _ (by unfold accLen; rfl) (by unfold accAt; rfl) c _ f))
    (congrArg₂ _ (bigSep_congr fun p _ => congrArg _ (funext fun f => aPt_same _ _ (by unfold accLen; rfl) (by unfold accAt; rfl) c _ f))
      (bigSep_congr fun p _ => congrArg _ (funext fun f => aPt_same _ _ (by unfold accLen; rfl) (by unfold accAt; rfl) c _ f)))

omit [FloatOps F] in
theorem b1_cut (c : Dev nD) (g : (Sh3 2 4096).Idx → F .bf16) : (b1M.view.loc (c : Thread nD τ) ↦{fullShare} g : sProp 𝕄)
    = bigSep Finset.univ fun p : Fin 2 × Fin 4 => b1Pt p.1 (fits_rel1 p.1 p.2 c) c g :=
  ((b1_parts c).cut g).trans (bigSep_congr fun k _ => by unfold b1Pt; rfl)
omit [FloatOps F] in
theorem b2_cut (c : Dev nD) (g : (Sh3 2 2048).Idx → F .bf16) : (b2M.view.loc (c : Thread nD τ) ↦{fullShare} g : sProp 𝕄)
    = bigSep Finset.univ fun p : Fin 2 × Fin 2 => b2Pt p.1 (fits_block p.2) c g :=
  ((b2_parts c).cut g).trans (bigSep_congr fun k _ => by unfold b2Pt; rfl)
omit [FloatOps F] in
theorem t_cut (c : Dev nD) (g : (Sh3 2 512).Idx → F .f32) : (tM.view.loc (c : Thread nD τ) ↦{fullShare} g : sProp 𝕄) = bigSep Finset.univ fun b => tPt b c g :=
  ((t_parts c).cut g).trans (bigSep_congr fun k _ => by unfold tPt; rfl)
omit [FloatOps F] in
theorem t_fuse (c : Dev nD) (g₀ : (Sh3 2 512).Idx → F .f32) : (bigSep Finset.univ fun b => iprop(∃ f, tPt (F := F) b c f)) ⊢ iprop(∃ g : (Sh3 2 512).Idx → F .f32, tM.view.loc (c : Thread nD τ) ↦{fullShare} g) :=
  (Entails.of_eq (bigSep_congr fun k _ => by unfold tPt; rfl)).trans ((t_parts c).fuse g₀)

/-! ## The sends by kind -/

omit [FloatOps F] in
theorem by_sends (Φ : Send → sProp 𝕄) : bigSep Finset.univ Φ = iprop((bigSep Finset.univ fun p : Fin 2 × Fin 4 => Φ (.rs1 p.1 p.2))
    ∗ (bigSep Finset.univ fun p : Fin 2 × Fin 2 => Φ (.rs2 p.1 p.2)) ∗ (bigSep Finset.univ fun p : Fin 2 × Fin 2 => Φ (.ag1 p.1 p.2))
    ∗ (bigSep Finset.univ fun h : Fin 2 => Φ (.ag2a h)) ∗ (bigSep Finset.univ fun p : Fin 2 × Fin 2 => Φ (.ag2b p.1 p.2))) := by
  rw [bigSep_univ_equiv sends.symm Φ, bigSep_univ_sum, bigSep_univ_sum, bigSep_univ_sum, bigSep_univ_sum]
  rfl

/-! ## Before -/

variable {m : (ℓ : Loc nD τ sig) → Buf (Elt F) ℓ} (c : Dev nD)

omit [FloatOps F] in
theorem land_room {s : Send} {d : Dev nD} (g1 : (Sh3 2 4096).Idx → F .bf16) (g2 : (Sh3 2 2048).Idx → F .bf16) (go : Big F) :
    Land (F := F) s d g1 g2 go ⊢ Room s d := by
  unfold Room; iintro H; iexists g1, g2, go; iexact H

section Rooms
variable (g1 : (Sh3 2 4096).Idx → F .bf16) (g2 : (Sh3 2 2048).Idx → F .bf16) (go : Big F)
include g1 g2 go
omit [FloatOps F] in
theorem room_rs1 (h : Fin 2) (q : Fin 4) : b1Pt h (fits_rel1 h q c) c g1 ⊢ Room (F := F) (.rs1 h q) c :=
  (Entails.of_eq (show b1Pt h (fits_rel1 h q c) c g1 = Land (F := F) (.rs1 h q) c g1 g2 go by unfold Land; rfl)).trans (land_room g1 g2 go)
omit [FloatOps F] in
theorem room_rs2 (h j : Fin 2) : b2Pt h (fits_block j) c g2 ⊢ Room (F := F) (.rs2 h j) c :=
  (Entails.of_eq (show b2Pt h (fits_block j) c g2 = Land (F := F) (.rs2 h j) c g1 g2 go by unfold Land; rfl)).trans (land_room g1 g2 go)
omit [FloatOps F] in
theorem room_ag1 (h j : Fin 2) : oPt (fits_send2 h j c) c go ⊢ Room (F := F) (.ag1 h j) c :=
  (Entails.of_eq (show oPt (fits_send2 h j c) c go = Land (F := F) (.ag1 h j) c g1 g2 go by unfold Land; rfl)).trans (land_room g1 g2 go)
omit [FloatOps F] in
theorem room_ag2a (h : Fin 2) : oPt (fits_keep2' h (p1 h c)) c go ⊢ Room (F := F) (.ag2a h) c :=
  (Entails.of_eq (show oPt (fits_keep2' h (p1 h c)) c go = Land (F := F) (.ag2a h) c g1 g2 go by unfold Land; rfl)).trans (land_room g1 g2 go)
omit [FloatOps F] in
theorem room_ag2b (h j : Fin 2) : oPt (fits_send2 h j (p1 h c)) c go ⊢ Room (F := F) (.ag2b h j) c :=
  (Entails.of_eq (show oPt (fits_send2 h j (p1 h c)) c go = Land (F := F) (.ag2b h j) c g1 g2 go by unfold Land; rfl)).trans (land_room g1 g2 go)
end Rooms

omit [FloatOps F] in
theorem bigSep_two (Φ : Fin 2 → sProp 𝕄) : bigSep Finset.univ Φ ⊢ iprop(Φ 0 ∗ Φ 1) := Entails.of_eq (bigSep_fin_two Φ)

omit [FloatOps F] in
/-- The result's buffer is room for the blocks of the gathers and for the device's own two pieces. -/
theorem cut_out (f : Big F) (g1 : (Sh3 2 4096).Idx → F .bf16) (g2 : (Sh3 2 2048).Idx → F .bf16) : (oM.view.loc (c : Thread nD τ) ↦{fullShare} f : sProp 𝕄)
    ⊢ iprop(((bigSep Finset.univ fun p : Fin 2 × Fin 2 => Room (F := F) (.ag1 p.1 p.2) c) ∗ (bigSep Finset.univ fun h : Fin 2 => Room (F := F) (.ag2a h) c)
      ∗ (bigSep Finset.univ fun p : Fin 2 × Fin 2 => Room (F := F) (.ag2b p.1 p.2) c))
      ∗ (∃ f, oPt (F := F) (fits_keep2' 0 c) c f) ∗ (∃ f, oPt (F := F) (fits_keep2' 1 c) c f)) := by
  rw [out_cut c f]
  refine (pair_mono (family_mono fun p : Fin 2 × Fin 2 => room_ag1 c g1 g2 f p.1 p.2) (pair_mono (family_mono fun h : Fin 2 => room_ag2a c g1 g2 f h)
    (pair_mono (family_mono fun p : Fin 2 × Fin 2 => room_ag2b c g1 g2 f p.1 p.2)
      (family_mono fun h : Fin 2 => to_some (fun f => oPt (F := F) (fits_keep2' h c) c f) f)))).trans ?_
  iintro ⟨H1, H2, H3, H4⟩
  ihave H4 := (bigSep_two _) $$ H4
  icases H4 with ⟨Ha, Hb⟩
  isplitl [H1 H2 H3]
  · isplitl [H1]; · iexact H1
    isplitl [H2]; · iexact H2
    iexact H3
  isplitl [Ha]; · iexact Ha
  iexact Hb

omit [FloatOps F] in
/-- The buffers as a device finds them, cut for its run. -/
theorem cut_all (fa : Big F) (g1 : (Sh3 2 4096).Idx → F .bf16) (g2 : (Sh3 2 2048).Idx → F .bf16) (ft : (Sh3 2 512).Idx → F .f32) (f : Big F) :
    iprop((aM.view.loc (c : Thread nD τ) ↦{fullShare} fa) ∗ (b1M.view.loc (c : Thread nD τ) ↦{fullShare} g1) ∗ (b2M.view.loc (c : Thread nD τ) ↦{fullShare} g2)
        ∗ (tM.view.loc (c : Thread nD τ) ↦{fullShare} ft) ∗ (oM.view.loc (c : Thread nD τ) ↦{fullShare} f))
      ⊢ iprop((bigSep Finset.univ fun s => Room (F := F) s c) ∗ ToTake (F := F) 0 c ∗ (∃ f, tPt (F := F) 0 c f) ∗ (∃ f, tPt (F := F) 1 c f)
        ∗ (∃ f, oPt (F := F) (fits_keep2' 0 c) c f) ∗ (∃ f, oPt (F := F) (fits_keep2' 1 c) c f)) := by
  rw [by_sends, rows_cut c fa, b1_cut c g1, b2_cut c g2, t_cut c ft]
  have hT : (Finset.univ.filter fun j : Fin 32 => 0 ≤ j.val) = Finset.univ := Finset.filter_true_of_mem fun j _ => Nat.zero_le _
  refine (pair_mono (family_mono fun j : Fin 32 => to_some (fun f => aPt (F := F) (fits_row j c) c fullShare f) fa)
    (pair_mono (family_mono fun p : Fin 2 × Fin 4 => room_rs1 c g1 g2 f p.1 p.2) (pair_mono (family_mono fun p : Fin 2 × Fin 2 => room_rs2 c g1 g2 f p.1 p.2)
      (pair_mono (family_mono fun b : Fin 2 => to_some (fun f => tPt (F := F) b c f) ft) (cut_out c f g1 g2))))).trans ?_
  unfold ToTake
  rw [hT]
  iintro ⟨Ha, H1, H2, Ht, ⟨Hr1, Hr2, Hr3⟩, Hoa, Hob⟩
  ihave Ht := (bigSep_two _) $$ Ht
  icases Ht with ⟨Hta, Htb⟩
  isplitl [H1 H2 Hr1 Hr2 Hr3]
  · isplitl [H1]; · iexact H1
    isplitl [H2]; · iexact H2
    isplitl [Hr1]; · iexact Hr1
    isplitl [Hr2]; · iexact Hr2
    iexact Hr3
  isplitl [Ha]; · iexact Ha
  isplitl [Hta]; · iexact Hta
  isplitl [Htb]; · iexact Htb
  isplitl [Hoa]; · iexact Hoa
  iexact Hob

/-! ## After -/

/-- The pieces of the result, all holding it, are the result. -/
theorem join_out : iprop((bigSep Finset.univ fun p : Fin 2 × Fin 2 => Src m (.ag2b p.1 p.2) c) ∗ (bigSep Finset.univ fun h : Fin 2 => Got m (.ag2a h) c)
      ∗ (bigSep Finset.univ fun p : Fin 2 × Fin 2 => Got m (.ag2b p.1 p.2) c) ∗ oPt (fits_keep2' 0 c) c (OUT m) ∗ oPt (fits_keep2' 1 c) c (OUT m))
    ⊢ (oM.view.loc (c : Thread nD τ) ↦{fullShare} OUT m : sProp 𝕄) := by
  rw [out_cut c (OUT m)]
  refine pair_mono (family_mono fun p => Entails.refl _) (pair_mono (family_mono fun p => Entails.refl _) (pair_mono (family_mono fun p => Entails.refl _) ?_))
  exact Entails.of_eq (bigSep_fin_two fun h => oPt (fits_keep2' h c) c (OUT m)).symm

/-- A kept piece of the sum, its shares together again. -/
theorem join_piece (h : Fin 2) : iprop((bigSep Finset.univ fun j : Fin 2 => Src m (.ag1 h j) c) ∗ Src m (.ag2a h) c ∗ aPt (fits_keep2' h c) c fullShare.right.right (A2 m c))
    ⊢ aPt (fits_keep2' h c) c fullShare (A2 m c) := by
  refine (pair_mono (Entails.of_eq (bigSep_fin_two _)) (Entails.refl _)).trans ?_
  show iprop((aPt (fits_keep2 h 0 c) c fullShare.left (A2 m c) ∗ aPt (fits_keep2 h 1 c) c fullShare.left (A2 m c))
    ∗ aPt (fits_keep2' h c) c fullShare.right.left (A2 m c) ∗ aPt (fits_keep2' h c) c fullShare.right.right (A2 m c)) ⊢ _
  exact (pair_mono (piece_blocks c h fullShare.left (A2 m c)).2 (aPt_share c (fits_keep2' h c) fullShare.right (A2 m c)).2).trans
    (aPt_share c (fits_keep2' h c) fullShare (A2 m c)).2

/-- The windows of the sum are the sum's buffer. -/
theorem join_acc : iprop((bigSep Finset.univ fun p : Fin 2 × Fin 4 => Src m (.rs1 p.1 p.2) c) ∗ (bigSep Finset.univ fun p : Fin 2 × Fin 2 => Src m (.rs2 p.1 p.2) c)
      ∗ (bigSep Finset.univ fun p : Fin 2 × Fin 2 => Src m (.ag1 p.1 p.2) c) ∗ (bigSep Finset.univ fun h : Fin 2 => Src m (.ag2a h) c)
      ∗ aPt (fits_keep2' 0 c) c fullShare.right.right (A2 m c) ∗ aPt (fits_keep2' 1 c) c fullShare.right.right (A2 m c))
    ⊢ iprop(∃ f : Big F, aM.view.loc (c : Thread nD τ) ↦{fullShare} f) := by
  refine BIBase.Entails.trans ?_ (acc_fuse c (A0 m c))
  rw [bigSep_univ_prod (fun p : Fin 2 × Fin 2 => Src m (.ag1 p.1 p.2) c)]
  refine pair_mono (family_mono fun p => to_some (fun f => aPt (F := F) (fits_src1 p.1 p.2 c) c fullShare f) (A0 m c))
    (pair_mono (family_mono fun p => to_some (fun f => aPt (F := F) (fits_send2 p.1 p.2 c) c fullShare f) (A1 m c)) ?_)
  refine BIBase.Entails.trans ?_ (family_mono fun h => (join_piece c h).trans (to_some (fun f => aPt (F := F) (fits_keep2' h c) c fullShare f) (A2 m c)))
  iintro ⟨H3, H4, Ha, Hb⟩
  iapply (Entails.of_eq (bigSep_sep' _ _ _).symm)
  isplitl [H3]; · iexact H3
  iapply (Entails.of_eq (bigSep_sep' _ _ _).symm)
  isplitl [H4]; · iexact H4
  iapply (show iprop(aPt (fits_keep2' 0 c) c fullShare.right.right (A2 m c) ∗ aPt (fits_keep2' 1 c) c fullShare.right.right (A2 m c))
    ⊢ bigSep Finset.univ fun h : Fin 2 => aPt (fits_keep2' h c) c fullShare.right.right (A2 m c) from Entails.of_eq (bigSep_fin_two fun h => aPt (fits_keep2' h c) c fullShare.right.right (A2 m c)).symm)
  isplitl [Ha]; · iexact Ha
  iexact Hb

theorem join_b1 : (bigSep Finset.univ fun p : Fin 2 × Fin 4 => Back m (.rs1 p.1 p.2) c) ⊢ iprop(∃ g : (Sh3 2 4096).Idx → F .bf16, b1M.view.loc (c : Thread nD τ) ↦{fullShare} g) := by
  iintro H; iexists (B1 m c); rw [b1_cut c (B1 m c)]
  iapply (show (bigSep Finset.univ fun p : Fin 2 × Fin 4 => Back m (.rs1 p.1 p.2) c) ⊢ bigSep Finset.univ fun p : Fin 2 × Fin 4 => b1Pt p.1 (fits_rel1 p.1 p.2 c) c (B1 m c)
    from family_mono fun p => Entails.refl _)
  iexact H
theorem join_b2 : (bigSep Finset.univ fun p : Fin 2 × Fin 2 => Back m (.rs2 p.1 p.2) c) ⊢ iprop(∃ g : (Sh3 2 2048).Idx → F .bf16, b2M.view.loc (c : Thread nD τ) ↦{fullShare} g) := by
  iintro H; iexists (B2 m c); rw [b2_cut c (B2 m c)]
  iapply (show (bigSep Finset.univ fun p : Fin 2 × Fin 2 => Back m (.rs2 p.1 p.2) c) ⊢ bigSep Finset.univ fun p : Fin 2 × Fin 2 => b2Pt p.1 (fits_block p.2) c (B2 m c)
    from family_mono fun p => Entails.refl _)
  iexact H
omit [FloatOps F] in
theorem join_t (g₀ : (Sh3 2 512).Idx → F .f32) : iprop((∃ f, tPt (F := F) 0 c f) ∗ (∃ f, tPt (F := F) 1 c f)) ⊢ iprop(∃ g : (Sh3 2 512).Idx → F .f32, tM.view.loc (c : Thread nD τ) ↦{fullShare} g) :=
  (Entails.of_eq (bigSep_fin_two fun b => iprop(∃ f, tPt (F := F) b c f)).symm).trans (t_fuse c g₀)

/-- What a device's run leaves of the buffers, besides the argument, put together again. -/
theorem join_all : iprop((bigSep Finset.univ fun s => Src m s c) ∗ (bigSep Finset.univ fun s => Back m s c) ∗ (∃ f, tPt (F := F) 0 c f) ∗ (∃ f, tPt (F := F) 1 c f)
      ∗ (aPt (fits_keep2' 0 c) c fullShare.right.right (A2 m c) ∗ oPt (fits_keep2' 0 c) c (OUT m)) ∗ (aPt (fits_keep2' 1 c) c fullShare.right.right (A2 m c) ∗ oPt (fits_keep2' 1 c) c (OUT m)))
    ⊢ iprop((oM.view.loc (c : Thread nD τ) ↦{fullShare} OUT m) ∗ (∃ f : Big F, aM.view.loc (c : Thread nD τ) ↦{fullShare} f)
      ∗ (∃ g : (Sh3 2 4096).Idx → F .bf16, b1M.view.loc (c : Thread nD τ) ↦{fullShare} g) ∗ (∃ g : (Sh3 2 2048).Idx → F .bf16, b2M.view.loc (c : Thread nD τ) ↦{fullShare} g)
      ∗ (∃ g : (Sh3 2 512).Idx → F .f32, tM.view.loc (c : Thread nD τ) ↦{fullShare} g)) := by
  rw [by_sends (fun s => Src m s c), by_sends (fun s => Back m s c)]
  iintro ⟨⟨S1, S2, S3, S4, S5⟩, ⟨G1, G2, -, G4, G5⟩, Ht0, Ht1, ⟨Ha, Oa⟩, ⟨Hb, Ob⟩⟩
  isplitl [S5 G4 G5 Oa Ob]
  · iapply (join_out c)
    isplitl [S5]; · iexact S5
    isplitl [G4]; · iexact G4
    isplitl [G5]; · iexact G5
    isplitl [Oa]; · iexact Oa
    iexact Ob
  isplitl [S1 S2 S3 S4 Ha Hb]
  · iapply (join_acc c)
    isplitl [S1]; · iexact S1
    isplitl [S2]; · iexact S2
    isplitl [S3]; · iexact S3
    isplitl [S4]; · iexact S4
    isplitl [Ha]; · iexact Ha
    iexact Hb
  isplitl [G1]; · iapply (join_b1 c); iexact G1
  isplitl [G2]; · iapply (join_b2 c); iexact G2
  iapply (join_t c fun _ => X m c (at2 0 (by decide) 0))
  isplitl [Ht0]; · iexact Ht0
  iexact Ht1

end Cert.SumProof
end
-- ==== Proof.Device.lean ====
/-
# A device's whole run

From what a device holds at its launch to what it leaves: the program's pieces between the two, every cell closed at the end.
-/
module

public import proofs.«01_k».proof.Proof.Ends

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

/-! ## The cells one by one -/

omit [FloatOps F] in
theorem by_name (Φ : CellName → sProp 𝕄) : bigSep Finset.univ Φ = iprop(Φ none ∗ (bigSep Finset.univ fun s => Φ (some (false, s))) ∗ (bigSep Finset.univ fun s => Φ (some (true, s)))) := by
  have e : (Finset.univ.erase none : Finset CellName) = Finset.univ.map Function.Embedding.some := by decide +kernel
  rw [bigSep_univ_at Φ none, e, bigSep_map, bigSep_univ_prod, bigSep_univ_eq_bigSepL [false, true] (by decide) (by decide)]
  rfl

/-- The device at the end of its one round at every cell, closing them all: every counter at zero. -/
theorem close_all : iprop(Ctx m K ∗ bigSep Finset.univ fun k => atPos (ER (F := F)) (cell c k) 1 ∅ 0)
    ⊢ (|={Set.univ}=> bigSep Finset.univ fun k => semVal (cell c k) 0 : sProp 𝕄) := by
  have h (k : CellName) : iprop(Ctx m K ∗ atPos (ER (F := F)) (cell c k) 1 ∅ 0) ⊢ (|={Set.univ}=> semVal (cell c k) 0 : sProp 𝕄) :=
    (pair_mono (Ctx_inv m K c k) (Entails.refl _)).trans
      (Rounds.cell_close ER (Rd m) (Set.mem_univ (K (c, k))) (fun h => h) (R := 0 + 1) (duties_later m (cell c k)))
  exact (pair_mono (BI.bigSep_of_persistent Finset.univ (Ctx m K)) (Entails.refl _)).trans
    ((Entails.of_eq (bigSep_sep' _ _ _).symm).trans ((bigSep_mono fun k _ => h k).trans (bigSep_fupd _ _)))

/-! ## What a device holds, outside its run -/

/-- The counters of the local copies, at zero. -/
def Local (c : Dev nD) : sProp 𝕄 :=
  iprop((semVal ((c : Thread nD τ), .dma (copySem 0)) 0 ∗ semVal ((c : Thread nD τ), .dma (copySem 1)) 0)
    ∗ (semVal ((c : Thread nD τ), .dma (ownSem 0)) 0 ∗ semVal ((c : Thread nD τ), .dma (ownSem 1)) 0))
/-- The tokens of the duties a device discharges. -/
def Pay (c : Dev nD) : sProp 𝕄 :=
  iprop((dutyTok (ER (F := F)) (barCell (nbrA c)) 0 true ∗ dutyTok (ER (F := F)) (barCell (nbrB c)) 0 false)
    ∗ (bigSep Finset.univ fun s => dutyTok (ER (F := F)) (sendCell s c) 0 false) ∗ (bigSep Finset.univ fun s => dutyTok (ER (F := F)) (recvCell s (peer s c)) 0 false))
/-- A device's positions at its cells, its tokens and its local counters. -/
def Held (c : Dev nD) : sProp 𝕄 := iprop((bigSep Finset.univ fun k => atPos (ER (F := F)) (cell c k) 0 ∅ 0) ∗ Pay (F := F) c ∗ Local (F := F) c)
/-- The credits of what its peers owe it. -/
def Creds (c : Dev nD) : sProp 𝕄 := iprop(cred (tallyAt (barCell c) () 2) ∗ bigSep Finset.univ fun s => cred (tallyAt (recvCell s c) () (amt s)))
/-- Its scratch buffers, with any contents. -/
def Scratch (c : Dev nD) : sProp 𝕄 :=
  iprop((∃ f : Big F, aM.view.loc (c : Thread nD τ) ↦{fullShare} f) ∗ (∃ g : (Sh3 2 4096).Idx → F .bf16, b1M.view.loc (c : Thread nD τ) ↦{fullShare} g)
    ∗ (∃ g : (Sh3 2 2048).Idx → F .bf16, b2M.view.loc (c : Thread nD τ) ↦{fullShare} g) ∗ (∃ g : (Sh3 2 512).Idx → F .f32, tM.view.loc (c : Thread nD τ) ↦{fullShare} g))
/-- Its argument, and the result's buffer holding `f`. -/
def Arrays (c : Dev nD) (f : Big F) : sProp 𝕄 := iprop((xM.view.loc (c : Thread nD τ) ↦{fullShare} X m c) ∗ (oM.view.loc (c : Thread nD τ) ↦{fullShare} f))

def Before (c : Dev nD) : sProp 𝕄 := iprop((∃ K, Ctx m K ∗ Held (F := F) c) ∗ Creds (F := F) c ∗ (∃ f, Arrays m c f) ∗ Scratch (F := F) c)
def After (c : Dev nD) : sProp 𝕄 := iprop(Arrays m c (OUT m) ∗ Scratch (F := F) c ∗ (bigSep Finset.univ fun k => semVal (cell c k) 0) ∗ Local (F := F) c)

/-- What a device holds at its launch is what its program's pieces start from. -/
theorem begin_intro : iprop(Held (F := F) c ∗ Creds (F := F) c ∗ (∃ f, Arrays m c f) ∗ Scratch (F := F) c ∗ ∃ W, owes (c : Thread nD τ) (debt₀ c) W) ⊢ Begin m c := by
  unfold Held Creds Arrays Scratch Pay Local
  rw [by_name]
  iintro ⟨⟨⟨HpB, HpS, HpR⟩, ⟨⟨HtA, HtB⟩, HtS, HtR⟩, ⟨Hc0, Hc1⟩, Hw0, Hw1⟩, ⟨HcB, HcR⟩, ⟨%fo, Hx, Ho⟩, ⟨⟨%fa, Ha⟩, ⟨%g1, H1⟩, ⟨%g2, H2⟩, ⟨%ft, Ht⟩⟩, HO⟩
  ihave Hcut := (cut_all c fa g1 g2 ft fo) $$ [Ha H1 H2 Ht Ho]
  · isplitl [Ha]; · iexact Ha
    isplitl [H1]; · iexact H1
    isplitl [H2]; · iexact H2
    isplitl [Ht]; · iexact Ht
    iexact Ho
  icases Hcut with ⟨Hroom, Htake, Ht0, Ht1, Ho0, Ho1⟩
  ihave Hx := (pointsTo_share (PosShare.mem_left_op_right fullShare)).1 $$ Hx
  icases Hx with ⟨Hx0, Hx1⟩
  unfold Begin
  isplitl [HO HtA HtB Hroom HcB HpB]
  · isplitl [HO]; · iexact HO
    isplitl [HtA]; · iexact HtA
    isplitl [HtB]; · iexact HtB
    isplitl [Hroom]; · iexact Hroom
    isplitl [HcB]; · iexact HcB
    iexact HpB
  isplitl [HtS HtR HpS]
  · iapply (Entails.of_eq (bigSep_sep' _ _ _).symm)
    isplitl [HtS]; · iexact HtS
    iapply (Entails.of_eq (bigSep_sep' _ _ _).symm)
    isplitl [HtR]; · iexact HtR
    iexact HpS
  isplitl [HcR HpR]
  · unfold Due
    iapply (Entails.of_eq (bigSep_sep' _ _ _).symm)
    isplitl [HcR]; · iexact HcR
    iexact HpR
  isplitl [Hx0 Ht0 Hc0]
  · unfold Free
    isplitl [Hx0]; · iexact Hx0
    isplitl [Ht0]; · iexact Ht0
    iexact Hc0
  isplitl [Hx1 Ht1 Hc1]
  · unfold Free
    isplitl [Hx1]; · iexact Hx1
    isplitl [Ht1]; · iexact Ht1
    iexact Hc1
  isplitl [Htake]; · iexact Htake
  isplitl [Ho0 Hw0]
  · isplitl [Ho0]; · iexact Ho0
    iexact Hw0
  isplitl [Ho1]; · iexact Ho1
  iexact Hw1

/-- What its program's pieces leave, the cells closed, is what the device ends with. -/
theorem end_elim : iprop(Ctx m K ∗ End m c) ⊢ (|={Set.univ}=> (After m c ∗ ∃ W, owes (c : Thread nD τ) 0 W) : sProp 𝕄) := by
  unfold End Left Come Free Owned Owe
  rw [bigSep_sep', bigSep_sep', debt_last]
  iintro ⟨#HC, HO, HpB, ⟨HpS, Hsrc⟩, ⟨HpR, Hback⟩, ⟨Hx0, Ht0, Hc0⟩, ⟨Hx1, Ht1, Hc1⟩, ⟨Ha0, Ho0, Hw0⟩, ⟨Ha1, Ho1, Hw1⟩⟩
  imod (close_all m K c) $$ [HpB HpS HpR] with Hz
  · isplitr; · iexact HC
    iapply (Entails.of_eq (by_name fun k => atPos (ER (F := F)) (cell c k) 1 ∅ 0).symm)
    isplitl [HpB]; · iexact HpB
    isplitl [HpS]; · iexact HpS
    iexact HpR
  ihave Hall := (join_all c) $$ [Hsrc Hback Ht0 Ht1 Ha0 Ho0 Ha1 Ho1]
  · isplitl [Hsrc]; · iexact Hsrc
    isplitl [Hback]; · iexact Hback
    isplitl [Ht0]; · iexact Ht0
    isplitl [Ht1]; · iexact Ht1
    isplitl [Ha0 Ho0]
    · isplitl [Ha0]; · iexact Ha0
      iexact Ho0
    isplitl [Ha1]; · iexact Ha1
    iexact Ho1
  icases Hall with ⟨Ho, Hscr⟩
  imodintro
  isplitr [HO]
  · unfold After Arrays Local Scratch
    isplitl [Hx0 Hx1 Ho]
    · isplitl [Hx0 Hx1]
      · iapply (pointsTo_share (PosShare.mem_left_op_right fullShare)).2
        isplitl [Hx0]; · iexact Hx0
        iexact Hx1
      iexact Ho
    isplitl [Hscr]; · iexact Hscr
    isplitl [Hz]; · iexact Hz
    isplitl [Hc0 Hc1]
    · isplitl [Hc0]; · iexact Hc0
      iexact Hc1
    isplitl [Hw0]; · iexact Hw0
    iexact Hw1
  iexact HO

/-- A device's run, from its launch to its end. -/
theorem device_run : iprop(Before m c ∗ ∃ W, owes (c : Thread nD τ) (debt₀ c) W)
    ⊢ WP c (bodyAt0 (F := F) t0_0) fun _ => iprop(After m c ∗ ∃ W, owes (c : Thread nD τ) 0 W) := by
  rw [body_eq, WP, wp_deviceId]
  refine BIBase.Entails.trans ?_ (wp_fupd _ _ _ _ _)
  unfold Before
  iintro ⟨⟨⟨%K, #HC, Hh⟩, Hcr, Harr, Hscr⟩, HO⟩
  ihave HB := (begin_intro m c) $$ [Hh Hcr Harr Hscr HO]
  · isplitl [Hh]; · iexact Hh
    isplitl [Hcr]; · iexact Hcr
    isplitl [Harr]; · iexact Harr
    isplitl [Hscr]; · iexact Hscr
    iexact HO
  iapply (prog_does m K c _) $$ [HB] []
  · isplitr; · iexact HC
    iexact HB
  · iintro HE
    iapply (end_elim m K c)
    isplitr; · iexact HC
    iexact HE

end Cert.SumProof
end
-- ==== Proof.Launch.lean ====
/-
# The launch: from the machine's first state to its last

The semaphores' cells are set up for all devices at once, each device is given what its run needs, and the final memory
is read off what the devices end with.
-/
module

public import proofs.«01_k».proof.Proof.Device
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- Two for the copies in, two for the copies out, and two for each send. -/
abbrev OwnIx : Type := Fin 2 ⊕ Fin 2 ⊕ (Bool × Send)
def osem : OwnIx → SemLoc sig
  | .inl b => .dma (copySem b)
  | .inr (.inl h) => .dma (ownSem h)
  | .inr (.inr p) => semOf (some p)
theorem osem_inj : Function.Injective osem := by
  have h : ∀ a b, osem a = osem b → a = b := by decide +kernel
  exact fun a b => h a b
theorem ownSemFacts : Pipeline.OwnSemFacts cfg0.spec osem := ⟨by decide +kernel, osem_inj, fun _ w => w.elim0⟩

omit [FloatOps F] in
theorem by_pairs (Φ : Bool × Send → sProp 𝕄) : bigSep Finset.univ Φ = iprop((bigSep Finset.univ fun s => Φ (false, s)) ∗ (bigSep Finset.univ fun s => Φ (true, s))) := by
  rw [bigSep_univ_prod, bigSep_univ_eq_bigSepL [false, true] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((semVal ((c : Thread nD τ), .dma (copySem 0)) 0 ∗ semVal ((c : Thread nD τ), .dma (copySem 1)) 0)
      ∗ (semVal ((c : Thread nD τ), .dma (ownSem 0)) 0 ∗ semVal ((c : Thread nD τ), .dma (ownSem 1)) 0)
      ∗ (bigSep Finset.univ fun s => semVal (sendCell s c) 0) ∗ (bigSep Finset.univ fun s => semVal (recvCell s c) 0)) := by
  unfold Pipeline.ownSems0
  rw [by_sum3, bigSep_fin_two, bigSep_fin_two, by_pairs]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊣⊢ iprop((bigSep Finset.univ fun k => semVal (cell c k) 0) ∗ Local (F := F) c) := by
  rw [ownSems0_eq, unscopedSems0_eq, by_name]
  unfold Local
  constructor
  · iintro ⟨⟨Hc, Hw, HS, HR⟩, HB⟩
    isplitl [HS HR HB]
    · isplitl [HB]; · iexact HB
      isplitl [HS]; · iexact HS
      iexact HR
    isplitl [Hc]; · iexact Hc
    iexact Hw
  · iintro ⟨⟨HB, HS, HR⟩, Hc, Hw⟩
    isplitr [HB]
    · isplitl [Hc]; · iexact Hc
      isplitl [Hw]; · iexact Hw
      isplitl [HS]; · iexact HS
      iexact HR
    iexact HB

/-! ## The cells and their tokens -/

def cells : Finset (GSem nD τ sig) := Finset.univ.map ⟨fun p : Dev nD × CellName => cell p.1 p.2, cell_inj⟩

/-- A cell's duties: a barrier's two, any other's one. -/
abbrev TokName : Type := Bool ⊕ (Bool × Send)
def tokOf (p : Dev nD × TokName) : GSem nD τ sig × ℕ × Bool := match p.2 with
  | .inl d => (barCell p.1, 0, d)
  | .inr k => (cell p.1 (some k), 0, false)
theorem tokOf_inj : Function.Injective tokOf := by
  rintro ⟨c, k | k⟩ ⟨c', k' | k'⟩ h
  · have h1 := cell_inj (a₁ := (c, none)) (a₂ := (c', none)) (congrArg (fun x : GSem nD τ sig × ℕ × Bool => x.1) h)
    have h2 : k = k' := congrArg (fun x : GSem nD τ sig × ℕ × Bool => x.2.2) h
    have h3 : c = c' := congrArg Prod.fst h1
    subst h2; subst h3; rfl
  · have h1 := cell_inj (a₁ := (c, none)) (a₂ := (c', some k')) (congrArg (fun x : GSem nD τ sig × ℕ × Bool => x.1) h)
    cases congrArg Prod.snd h1
  · have h1 := cell_inj (a₁ := (c, some k)) (a₂ := (c', none)) (congrArg (fun x : GSem nD τ sig × ℕ × Bool => x.1) h)
    cases congrArg Prod.snd h1
  · have h1 := cell_inj (a₁ := (c, some k)) (a₂ := (c', some k')) (congrArg (fun x : GSem nD τ sig × ℕ × Bool => x.1) h)
    have h2 : k = k' := Option.some.inj (congrArg Prod.snd h1)
    have h3 : c = c' := congrArg Prod.fst h1
    subst h2; subst h3; rfl
def tokens : Finset (GSem nD τ sig × ℕ × Bool) := Finset.univ.map ⟨tokOf, tokOf_inj⟩

def u₀ : UU := (initOf (Pipeline.cells cfgs cellOf_inj) (Pipeline.launchToks cfgs cellOf_inj), (initOf cells tokens, 1))

/-- The tokens of a device's own cells. -/
def Toks (c : Dev nD) : sProp 𝕄 :=
  iprop((dutyTok (ER (F := F)) (barCell c) 0 false ∗ dutyTok (ER (F := F)) (barCell c) 0 true)
    ∗ (bigSep Finset.univ fun s => dutyTok (ER (F := F)) (sendCell s c) 0 false) ∗ (bigSep Finset.univ fun s => dutyTok (ER (F := F)) (recvCell s c) 0 false))

omit [FloatOps F] in
theorem toks_eq (c : Dev nD) : (bigSep Finset.univ fun k => dutyTok (ER (F := F)) (tokOf (c, k)).1 (tokOf (c, k)).2.1 (tokOf (c, k)).2.2 : sProp 𝕄) = Toks c := by
  unfold Toks
  rw [bigSep_univ_sum, by_pairs, bigSep_univ_eq_bigSepL [false, true] (by decide) (by decide)]; rfl

/-- What each device is dealt at first. -/
def G (c : Dev nD) : sProp 𝕄 :=
  iprop((bigSep Finset.univ fun k => roundState (ER (F := F)) (Rd m) (cell c k) 0)
    ∗ ((bigSep Finset.univ fun k => atPos (ER (F := F)) (cell c k) 0 ∅ 0) ∗ (bigSep Finset.univ fun k => reached (ER (F := F)) (cell c k) 0)) ∗ Toks (F := F) c)
def invsMarks (K : Dev nD × CellName → ℕ) : sProp 𝕄 := iprop(invs m K ∗ marks (F := F))
instance invsMarks_persistent (K) : BI.Persistent (invsMarks m K) := by unfold invsMarks; infer_instance
def G' (c : Dev nD) : sProp 𝕄 := iprop(∃ K, invsMarks m K ∗ Held (F := F) c)

theorem fund : BI.own (ER (F := F) (initOf cells tokens)) ⊢ (|==> bigSep Finset.univ (G m) : sProp 𝕄) := by
  have hX (Φ : GSem nD τ sig → sProp 𝕄) : bigSep cells Φ = bigSep Finset.univ fun c : Dev nD => bigSep Finset.univ fun k => Φ (cell c k) := by
    unfold cells; rw [bigSep_map, bigSep_univ_prod]; rfl
  have hT : bigSep tokens (fun x => (dutyTok (ER (F := F)) x.1 x.2.1 x.2.2 : sProp 𝕄)) = bigSep Finset.univ fun c : Dev nD => Toks (F := F) c := by
    unfold tokens; rw [bigSep_map, bigSep_univ_prod]
    exact bigSep_congr fun c _ => toks_eq c
  iintro HX
  imod (Rounds.fund (ER (F := F)) (Rd m) cells tokens) $$ HX with ⟨Hst, Hr, Hat, Htok⟩
  imodintro
  ihave Hst := (Entails.of_eq (hX fun g => roundState (ER (F := F)) (Rd m) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv (ER (F := F)) (Rd m) κ (cell c k)))
          ∗ (bigSep Finset.univ fun k => reached (ER (F := F)) (cell c k) 0) ∗ (bigSep Finset.univ fun k => atPos (ER (F := F)) (cell c k) 0 ∅ 0)
          ∗ Toks (F := F) c ∗ Local (F := F) c) := by
  unfold G
  iintro ⟨Hos, Hus, Hst, ⟨Hat, Hr⟩, Htok⟩
  ihave Hv := (sems_eq (F := F) c).1 $$ [Hos Hus]
  · isplitl [Hos]; · iexact Hos
    iexact Hus
  icases Hv with ⟨Hv, Hloc⟩
  imod (show iprop((bigSep Finset.univ fun k => semVal (cell c k) 0) ∗ bigSep Finset.univ fun k => roundState (ER (F := F)) (Rd m) (cell c k) 0)
      ⊢ (|={Set.univ}=> bigSep Finset.univ fun k => iprop(∃ κ : ℕ, cellInv (ER (F := F)) (Rd m) κ (cell c k)) : sProp 𝕄) from by
        rw [← bigSep_sep']
        exact (bigSep_mono fun k _ => (Rounds.body_intro (ER (F := F)) (Rd m) (cell c k)).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact Hloc

/-! ## The tokens dealt to the devices that discharge the duties -/

def swapA : Dev nD ≃ Dev nD := ⟨nbrA, nbrA, nbrA_nbrA, nbrA_nbrA⟩
def swapB : Dev nD ≃ Dev nD := ⟨nbrB, nbrB, nbrB_nbrB, nbrB_nbrB⟩
def swapEach : Dev nD × Send ≃ Dev nD × Send :=
  ⟨fun p => (peer p.2 p.1, p.2), fun p => (peer p.2 p.1, p.2), fun p => Prod.ext (peer_peer _ _) rfl, fun p => Prod.ext (peer_peer _ _) rfl⟩

omit [FloatOps F] in
theorem toks_across : (bigSep Finset.univ fun c : Dev nD => (Toks (F := F) c : sProp 𝕄)) ⊢ bigSep Finset.univ fun c : Dev nD => Pay (F := F) c := by
  have hR : (bigSep Finset.univ fun c : Dev nD => bigSep Finset.univ fun s => dutyTok (ER (F := F)) (recvCell s c) 0 false : sProp 𝕄)
      = bigSep Finset.univ fun c : Dev nD => bigSep Finset.univ fun s => dutyTok (ER (F := F)) (recvCell s (peer s c)) 0 false := by
    rw [← bigSep_univ_prod (fun p : Dev nD × Send => (dutyTok (ER (F := F)) (recvCell p.2 p.1) 0 false : sProp 𝕄)),
      ← bigSep_univ_prod (fun p : Dev nD × Send => (dutyTok (ER (F := F)) (recvCell p.2 (peer p.2 p.1)) 0 false : sProp 𝕄))]
    exact bigSep_univ_equiv swapEach fun p : Dev nD × Send => (dutyTok (ER (F := F)) (recvCell p.2 p.1) 0 false : sProp 𝕄)
  unfold Toks Pay
  rw [bigSep_sep', bigSep_sep', bigSep_sep', bigSep_sep', bigSep_sep', bigSep_sep',
    bigSep_univ_equiv swapB (fun c : Dev nD => (dutyTok (ER (F := F)) (barCell c) 0 false : sProp 𝕄)),
    bigSep_univ_equiv swapA (fun c : Dev nD => (dutyTok (ER (F := F)) (barCell c) 0 true : sProp 𝕄)), hR]
  iintro ⟨⟨H1, H2⟩, H3, H4⟩
  isplitl [H1 H2]
  · isplitl [H2]; · iexact H2
    iexact H1
  isplitl [H3]; · iexact H3
  iexact H4

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (pair_mono (BI.bigSep_of_persistent S R) (Entails.refl _)).trans ((Entails.of_eq (bigSep_sep' _ _ _).symm).trans (bigSep_mono h))

theorem regroup :
    (bigSep Finset.univ fun c : Dev nD => iprop((bigSep Finset.univ fun k => iprop(∃ κ : ℕ, cellInv (ER (F := F)) (Rd m) κ (cell c k)))
          ∗ (bigSep Finset.univ fun k => reached (ER (F := F)) (cell c k) 0) ∗ (bigSep Finset.univ fun k => atPos (ER (F := F)) (cell c k) 0 ∅ 0)
          ∗ Toks (F := F) c ∗ Local (F := F) c) : sProp 𝕄)
      ⊢ bigSep Finset.univ (G' m) := by
  rw [bigSep_sep', bigSep_sep', bigSep_sep', bigSep_sep', ← bigSep_univ_prod (fun p : Dev nD × CellName => iprop(∃ κ : ℕ, cellInv (ER (F := F)) (Rd m) κ (cell p.1 p.2))),
    ← bigSep_univ_prod (fun p : Dev nD × CellName => (reached (ER (F := F)) (cell p.1 p.2) 0 : sProp 𝕄))]
  iintro ⟨HI, #HR, Hat, Htok, Hloc⟩
  ihave HK := (BI.bigSep_exists_pi Finset.univ (fun (p : Dev nD × CellName) (κ : ℕ) => (cellInv (ER (F := F)) (Rd m) κ (cell p.1 p.2) : sProp 𝕄))) $$ HI
  icases HK with ⟨%K, #HI⟩
  ihave Htk := (toks_across (F := F)) $$ Htok
  iapply (with_persistent (R := invsMarks m K) (Φ := Held (F := F)) fun c _ => to_some (fun K => iprop(invsMarks m K ∗ Held (F := F) c)) K)
  isplitr
  · unfold invsMarks invs marks
    isplitl; · iexact HI
    iexact HR
  · unfold Held
    rw [bigSep_sep', bigSep_sep']
    isplitl [Hat]; · iexact Hat
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem cell_eq_iff {a b : Dev nD} {k k' : CellName} : cell a k = cell b k' ↔ a = b ∧ k = k' :=
  ⟨fun h => ⟨congrArg Prod.fst (cell_inj (a₁ := (a, k)) (a₂ := (b, k')) h), congrArg Prod.snd (cell_inj (a₁ := (a, k)) (a₂ := (b, k')) h)⟩, fun ⟨h, h'⟩ => by rw [h, h']⟩

theorem owed_at (d c : Dev nD) (k : CellName) : debt₀ d (cell c k) ()
    = (∑ s, if c = peer s d ∧ k = some (true, s) then amt s else 0) + (if c = nbrB d ∧ k = none then 1 else 0) + (if c = nbrA d ∧ k = none then 1 else 0) := by
  unfold debt₀ debt₁ debt
  rw [todo_zero, Pi.add_apply, Finsupp.add_apply, Pi.add_apply, Finsupp.add_apply, Finset.sum_apply, Finsupp.finsetSum_apply]
  simp only [tallyAt_apply, cell_eq_iff, and_true]

theorem credit_bar (c : Dev nD) : ∑ d : Dev nD, debt₀ d (barCell c) () = 2 := by
  have h : ∀ c : Dev nD, (∑ d : Dev nD, ((if c = nbrB d then 1 else 0) + (if c = nbrA d then 1 else 0))) = 2 := by decide +kernel
  rw [← h c]
  refine Finset.sum_congr rfl fun d _ => ?_
  rw [owed_at, Finset.sum_eq_zero fun s _ => if_neg fun h => by cases h.2]
  simp only [and_true, Nat.zero_add]

theorem credit_recv (s : Send) (c : Dev nD) : ∑ d : Dev nD, debt₀ d (recvCell s c) () = amt s := by
  have h (d : Dev nD) : debt₀ d (recvCell s c) () = if peer s c = d then amt s else 0 := by
    rw [owed_at, if_neg (fun h => by cases h.2), if_neg (fun h => by cases h.2), Finset.sum_eq_single s
      (fun s' _ hs => if_neg fun h => hs (congrArg Prod.snd (Option.some.inj h.2)).symm) (fun h => absurd (Finset.mem_univ _) h)]
    have e : (c = peer s d ∧ (some (true, s) : CellName) = some (true, s)) ↔ peer s c = d :=
      ⟨fun h => by rw [h.1, peer_peer], fun h => ⟨by rw [← h, peer_peer], rfl⟩⟩
    rw [if_congr e rfl rfl]; rfl
  rw [Finset.sum_congr rfl fun d _ => h d, Finset.sum_ite_eq, if_pos (Finset.mem_univ _)]

theorem launch_at (c : Dev nD) (k : CellName) (n : ℕ) (h : ∑ d : Dev nD, debt₀ d (cell c k) () = n) :
    tallyOn (cell c k) (launchCredit (Pipeline.owing debt₀) 0 (cell c k)) = (tallyAt (cell c k) () n : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred debt₀ c : sProp 𝕄) ⊢ Creds (F := F) c := by
  have hf : Set.InjOn (fun s : Send => semOf (some (true, s))) (Finset.univ : Finset Send) := fun s _ s' _ h => by
    have := semOf_inj h; exact congrArg Prod.snd (Option.some.inj this)
  have hb : semOf none ∉ Finset.univ.image fun s : Send => semOf (some (true, s)) := fun h => by
    obtain ⟨s, _, h⟩ := Finset.mem_image.mp h
    cases semOf_inj h
  unfold Pipeline.launchCred Creds
  rw [bigSep_univ_at _ (semOf none)]
  refine pair_mono (Entails.of_eq (congrArg cred (launch_at c none 2 (credit_bar c)))) ?_
  refine (bigSep_subset (t := Finset.univ.image fun s : Send => semOf (some (true, s))) fun x hx => Finset.mem_erase.mpr ⟨fun e => hb (by rw [← e]; exact hx), Finset.mem_univ _⟩).trans ?_
  rw [bigSep_image_of_injOn hf]
  exact bigSep_mono fun s _ => Entails.of_eq (congrArg cred (launch_at c (some (true, s)) (amt s) (credit_recv s c)))

/-! ## The pipeline's data: one point, no windows -/

def dats (_ : Fin 1) (c : Dev nD) : Dat τ (Elt F) Unit ℕ UU ℕ cfg0 c where
  A w := w.elim0
  after w := w.elim0
  Φ t := match t with
    | ⟨0, _⟩ => Before m c
    | ⟨_ + 1, _⟩ => After m c
  q _ := fullShare
  owed t := match t with
    | ⟨0, _⟩ => debt₀ c
    | ⟨_ + 1, _⟩ => 0

/-- What the launch runs at its one point is the kernel's body. -/
theorem body_row : defs₀ (F := F) .tc cfg0.body (cfg0.bodyArgs t0_0 (cfg0.slots t0_0)) = bodyAt0 t0_0 := rfl

theorem body_obligation (c : Dev nD) : BodyObligation (dats (F := F) m 0 c) (defs₀ (F := F)) 𝒱₀ () Set.univ := fun t => by
  rw [fin_N0 t]
  have e0 : (dats m 0 c).Φ (t0_0 : Fin cfg0.N).castSucc = Before m c := rfl
  have e1 : (dats m 0 c).Φ (t0_0 : Fin cfg0.N).succ = After m c := rfl
  rw [e0, e1]
  unfold Dat.owesAt Pipeline.owesWithin
  rw [show (dats m 0 c).owed (t0_0 : Fin cfg0.N).castSucc = debt₀ c from rfl, show (dats m 0 c).owed (t0_0 : Fin cfg0.N).succ = 0 from rfl]
  rw [body_row]
  have run := device_run m c
  generalize bodyAt0 (F := F) t0_0 = p at run ⊢
  unfold WP at run
  refine BIBase.Entails.trans ?_ (run.trans (Idealize.SL.Sem.wp_mono _ _ _ fun _ => ?_))
  · iintro ⟨HB, ⟨%W, -, HO⟩, -⟩
    isplitl [HB]; · iexact HB
    iexists W; iexact HO
  · iintro ⟨HA, ⟨%W, HO⟩⟩
    isplitl [HA]; · iexact HA
    isplitl [HO]
    · iexists W
      isplitr; · ipureintro; exact fun _ _ => Or.inl trivial
      iexact HO
    · iapply (Entails.of_eq (bigSep_empty (M := 𝕄)).symm)
      iempintro

/-! ## The launch's side conditions -/

/-- What a device holds when its kernel starts, but for the scratch buffers. -/
def start (c : Dev nD) : sProp 𝕄 := iprop((∃ K, Ctx m K ∗ Held (F := F) c) ∗ Creds (F := F) c ∗ (∃ f, Arrays m c f))

theorem start_intro (c : Dev nD) :
    iprop(Pipeline.unscopedRestP Pipeline.Prefetch.none cfg0.spec c (fun b => m ((c : Thread nD τ).loc b)) ∗ levAts L lv
        ∗ Pipeline.launchCred debt₀ c ∗ prngReg c (ρ c) ∗ G' m c)
      ⊢ |={Set.univ}=> iprop(start m c ∗ emp) := by
  rw [Pipeline.unscopedRestP_none, unscopedRest0_eq]
  unfold start G' Ctx invsMarks
  iintro ⟨⟨Hx, Ho⟩, Hlev, Hcr, -, ⟨%K, ⟨HI, HM⟩, HH⟩⟩
  ihave Hc := (creds (F := F) c) $$ Hcr
  imodintro
  isplitl
  · isplitl [HI HM HH Hlev]
    · iexists K
      isplitr [HH]
      · isplitl [HI]; · iexact HI
        isplitl [HM]; · iexact HM
        iexact Hlev
      iexact HH
    isplitl [Hc]; · iexact Hc
    iexists m ((c : Thread nD τ).loc main_v1)
    unfold Arrays
    isplitl [Hx]; · iexact Hx
    iexact Ho
  · iempintro

omit [FloatOps F] in
theorem scratch_eq (c : Dev nD) : (Pipeline.scopedRest (Ix := Unit) (Name := ℕ) (U := UU) (Lvl := ℕ) (Val := Elt F) cfg0.spec c : sProp 𝕄) = Scratch (F := F) c := by
  rw [scopedRest0_eq]; rfl

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Before m c from rfl, scratch_eq]
  unfold start Before
  iintro ⟨⟨HC, Hcr, HA⟩, -, HS⟩
  isplitl [HC]; · iexact HC
  isplitl [Hcr]; · iexact Hcr
  isplitl [HA]; · iexact HA
  iexact HS

theorem after_exit (c : Dev nD) :
    (dats m 0 c).Φ (Fin.last cfg0.N) ⊢ iprop((Arrays m c (OUT m) ∗ unscopedSems0 c) ∗ Pipeline.ownSems0 osem c ∗ Pipeline.scopedRest cfg0.spec c) := by
  rw [show (dats m 0 c).Φ (Fin.last cfg0.N) = After m c from rfl, scratch_eq]
  unfold After
  iintro ⟨HA, HS, HV, HL⟩
  ihave H := (sems_eq (F := F) c).2 $$ [HV HL]
  · isplitl [HV]; · iexact HV
    iexact HL
  icases H with ⟨Hos, Hus⟩
  isplitl [HA Hus]
  · isplitl [HA]; · iexact HA
    iexact Hus
  isplitl [Hos]; · iexact Hos
  iexact HS

theorem waits (c : Dev nD) : (levAts L lv : sProp 𝕄) ⊢ Pipeline.cellsWaits cfgs (dats m) () 0 c :=
  Pipeline.cellsWaits_intro cfgs (dats m) () 0 c fun w s t => w.elim0

/-- What a device's memory holds at the end. -/
def Ended (c : Dev nD) (s : MemSt nD τ sig (Elt F)) : Prop :=
  s.mem ((c : Thread nD τ).loc main_arg0) = X m c ∧ s.mem ((c : Thread nD τ).loc main_v1) = OUT m

theorem arrays_read (c : Dev nD) (s' : Phys nD τ sig (Elt F)) :
    iprop(Arrays m c (OUT m) ∗ SI s') ⊢ (iprop(⌜Ended m c s'.mem⌝ ∗ SI s') : sProp 𝕄) := by
  unfold Arrays
  iintro ⟨⟨Hx, Ho⟩, HSI⟩
  icombine HSI Hx gives %hx
  icombine HSI Ho gives %ho
  isplitr
  · ipureintro; exact ⟨Buf.eq_of_forall_mem_univ hx, Buf.eq_of_forall_mem_univ ho⟩
  iexact HSI

theorem read_end (c : Dev nD) (s' : Phys nD τ sig (Elt F)) :
    iprop((Arrays m c (OUT m) ∗ unscopedSems0 c) ∗ emp ∗ SI s')
      ⊢ (|={Set.univ}=> iprop(⌜Ended m c s'.mem ∧ ∀ sm : SemLoc sig, sm.isScoped .tc = false → s'.mem.sem ((c.tc : Thread nD τ), sm) = 0⌝ ∗ SI s') : sProp 𝕄) := by
  iintro ⟨⟨HA, Hu⟩, -, HSI⟩
  ihave H := (arrays_read m c s') $$ [HA HSI]
  · isplitl [HA]; · iexact HA
    iexact HSI
  icases H with ⟨%he, HSI⟩
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨he, hs⟩
  iexact HSI

set_option maxRecDepth 16000 in
/-- For any float values, from any memory with every semaphore at zero: every weakly fair execution of the four devices'
    kernels ends, and at its end each device's argument is what it was, each device's result holds `OUT`, and every
    semaphore is at zero. -/
theorem run_main : θ_run defs (onTc (τ := τ) (main (F := F))) (s₀ m ρ) (fun r => (∀ c, Ended m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := debt₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      ihave HX := (show BI.own ((Emb.inl.trans embR) (initOf cells tokens)) ⊢ BI.own (ER (F := F) (initOf cells tokens)) from Entails.refl _) $$ HX
      imod (fund m) $$ HX with HG
      imodintro
      isplitl [HP] <;> iassumption)
    (hglob := glob m)
    (hA := fun _ w => w.elim0) (hpf := fun _ k => k.elim0)
    (X := start m) (Y := fun c => iprop(Arrays m c (OUT m) ∗ unscopedSems0 c)) (Z := fun _ => iprop(emp))
    (hX := start_intro m ρ) (hin := before_intro m) (hout := after_exit m)
    (QY := fun c s => Ended m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.SumProof
end
-- ==== Proof.Value.lean ====
/-
# The result over the extended reals

Over the extended reals each of the kernel's rows is the sum over the devices of their rows, in whichever order the
devices' exchanges took them, and so is each of the reference's.
-/
module

public import proofs.«01_k».proof.Proof.Launch
public import proofs.«01_k».proof.Proof.Gen.ReferenceIdeal.Run
public import Idealize.ShloMosaic.Lib.Pointwise.Reduce
public import Idealize.ShloMosaic.Lib.Pipeline.Value
public import Idealize.ShloMosaic.Lib.Layout

@[expose] public section

noncomputable section

namespace Cert.SumProof

open Cert.KernelIdeal Cert.KernelIdeal.Gen
open Idealize.ShloMosaic
open Idealize.ShloMosaic.TcCoe

/-- A device, its first partner, its second and its second's first are the four devices. -/
theorem all_four : ∀ (h : Fin 2) (c : Dev nD), (Finset.univ : Finset (Dev nD)) = {c, p1 h c, p2 h c, p1 h (p2 h c)}
    ∧ c ∉ ({p1 h c, p2 h c, p1 h (p2 h c)} : Finset (Dev nD)) ∧ p1 h c ∉ ({p2 h c, p1 h (p2 h c)} : Finset (Dev nD)) ∧ p2 h c ≠ p1 h (p2 h c) := by decide

/-- Two additions in pairs add up all four devices' terms. -/
theorem sum_in_pairs {M : Type} [AddCommMonoid M] (f : Dev nD → M) (h : Fin 2) (c : Dev nD) :
    (f c + f (p1 h c)) + (f (p2 h c) + f (p1 h (p2 h c))) = ∑ d : Dev nD, f d := by
  obtain ⟨e, n1, n2, n3⟩ := all_four h c
  rw [e, Finset.sum_insert n1, Finset.sum_insert n2, Finset.sum_pair n3, add_assoc]

/-- The kernel's result, read over the extended reals: at each element the sum of the four devices' arguments there. -/
theorem OUT_sum (m : (ℓ : Loc nD τ sig) → Buf (Elt Ideal) ℓ) (i : (Sh 16384).Idx) :
    OUT m i = (∑ d : Dev nD, (X m d i : EReal) : EReal) := sum_in_pairs (fun d => (X m d i : EReal)) (half (ro i)) (owner (ro i))

/-! ## The reference's -/

/-- The reference's argument, its result, and the element of the argument that is device `d`'s element `i`. -/
abbrev Whole : Shape := ⟨2, ![65536, 1024]⟩
def wholeAt (d : Fin 4) (i : (Sh 16384).Idx) : Whole.Idx :=
  fun a => match a with | ⟨0, _⟩ => ⟨16384 * d.val + (i 0).val, by have := ro_lt i; have := d.isLt; show _ < 65536; change (i 0).val < 16384 at *; omega⟩ | ⟨1, _⟩ => i 1

/-- What the reference computes of its argument. -/
def summed (x : Whole.Idx → EReal) : (Sh 16384).Idx → EReal :=
  truncf (F := Ideal) .bf16 (Host.reduceAdd (extf .f32 (shapeCast _ (truncf (F := Ideal) .bf16 (x : FVec Ideal Cert.ReferenceIdeal.S65536x1024 .f32) Cert.ReferenceIdeal.Gen.bitsLt_bf16_f32) Cert.ReferenceIdeal.Gen.shapeCasts_S65536x1024_S4x16384x1024) Cert.ReferenceIdeal.Gen.bitsLt_bf16_f32)
    (constant Cert.ReferenceIdeal.S_ .f32 0x00000000#32) Cert.ReferenceIdeal.Gen.reducesTo_S4x16384x1024_S16384x1024_d0 Cert.ReferenceIdeal.Gen.h_S_) Cert.ReferenceIdeal.Gen.bitsLt_bf16_f32

theorem summed_apply (x : Whole.Idx → EReal) (i : (Sh 16384).Idx) : summed x i = ∑ d : Fin 4, x (wholeAt d i) := by
  have e : summed x i = Ideal.hostReduceAdd Cert.ReferenceIdeal.Gen.reducesTo_S4x16384x1024_S16384x1024_d0
      (shapeCast Cert.ReferenceIdeal.S4x16384x1024 x Cert.ReferenceIdeal.Gen.shapeCasts_S65536x1024_S4x16384x1024) (Ideal.ofBits .f32 0x00000000#32) i := rfl
  rw [e, Ideal.hostReduceAdd_r3_a0, Ideal.ofBits_zero_f32, zero_add]
  refine Finset.sum_congr rfl fun d _ => shapeCast_apply x _ _ (wholeAt d i) ?_
  rw [Shape.rowMajor_val_two, Shape.rowMajor_val_three]
  show (16384 * d.val + (i 0).val) * 1024 + (i 1).val = (d.val * 16384 + (i 0).val) * 1024 + (i 1).val
  ring

/-- Each device's argument a block of the reference's, the kernel's result is the reference's. -/
theorem OUT_eq (m : (ℓ : Loc nD τ sig) → Buf (Elt Ideal) ℓ) (x : Whole.Idx → EReal)
    (h : ∀ c : Dev nD, X m c = Layout.block ⟨2, ![16384, 1024]⟩ ⟨2, ![65536, 1024]⟩ 0 4 c x) : OUT m = summed x := by
  funext i
  rw [OUT_sum, summed_apply]
  refine Finset.sum_congr rfl fun d _ => ?_
  rw [h d, Layout.block_apply]
  refine congrArg x (funext fun a => Fin.ext ?_)
  rw [Layout.Tiles.idx_val]
  fin_cases a
  · show d.val * 16384 + (i 0).val = 16384 * d.val + (i 0).val; ring
  · rfl

end Cert.SumProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed, over the floats' bits, runs, leaves its argument as it was and every semaphore at zero: its text
    is the idealized kernel's, whose run holds over any float values. -/
theorem frame_kernel : Cert.quiescent_Kernel := fun m ρ _ =>
  (θ_run Cert.KernelIdeal.defs _ _).mono (fun _ h => ⟨fun c => (h.1 c).1, h.2⟩) (Cert.SumProof.run_main (F := Bits) m ρ)

/-- The idealized kernel runs, leaves its argument as it was and every semaphore at zero. -/
theorem frame_ideal : Cert.quiescent_KernelIdeal := fun m ρ _ =>
  (θ_run Cert.KernelIdeal.defs _ _).mono (fun _ h => ⟨fun c => (h.1 c).1, h.2⟩) (Cert.SumProof.run_main (F := Ideal) m ρ)

/-- The reference runs, leaves its argument as it was and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's. -/
theorem values : Cert.algebraic_KernelIdeal_ReferenceIdeal := fun m ρ m' ρ' _ hm =>
  ⟨Cert.SumProof.OUT m,
    (θ_run Cert.KernelIdeal.defs _ _).mono (fun _ h c => ⟨(h.1 c).2, (h.1 c).1⟩) (Cert.SumProof.run_main (F := Ideal) m ρ),
    (θ_run Cert.ReferenceIdeal.defs _ _).mono (fun _ h => ⟨(h 0).1.trans (Cert.SumProof.OUT_eq m _ hm).symm, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
